-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Dequant (m : (ℓ : Loc Cert.Dequant.nD Cert.Dequant.τ Cert.Dequant.sig) → Buf (Elt Bits) ℓ) : Prop :=
  True

def Pre_DequantIdeal (m : (ℓ : Loc Cert.DequantIdeal.nD Cert.DequantIdeal.τ Cert.DequantIdeal.sig) → Buf (Elt Ideal) ℓ) : Prop :=
  True

def Pre_DequantReferenceIdeal (m : (ℓ : Loc Cert.DequantReferenceIdeal.nD Cert.DequantReferenceIdeal.τ Cert.DequantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dequant [hDequant : Cert.Dequant.Facts] : Prop :=
  ∀ (m : (ℓ : Loc Cert.Dequant.nD Cert.Dequant.τ Cert.Dequant.sig) → Buf (Elt Bits) ℓ) (g : Dev Cert.Dequant.nD → PrngReg), Pre_Dequant m →
    θ_run (Cert.Dequant.defs (F := Bits)) (onTc (τ := Cert.Dequant.τ) (Cert.Dequant.main (F := Bits))) ⟨m, fun _ => 0, g⟩ (fun r => (∀ c : Dev Cert.Dequant.nD,
      r.2.mem ((c.tc : Thread Cert.Dequant.nD Cert.Dequant.τ).loc Cert.Dequant.main_arg0) = m ((c.tc : Thread Cert.Dequant.nD Cert.Dequant.τ).loc Cert.Dequant.main_arg0)
      ∧ r.2.mem ((c.tc : Thread Cert.Dequant.nD Cert.Dequant.τ).loc Cert.Dequant.main_arg1) = m ((c.tc : Thread Cert.Dequant.nD Cert.Dequant.τ).loc Cert.Dequant.main_arg1))
      ∧ r.2.sem = fun _ => 0)

def quiescent_DequantIdeal [hDequantIdeal : Cert.DequantIdeal.Facts] : Prop :=
  ∀ (m : (ℓ : Loc Cert.DequantIdeal.nD Cert.DequantIdeal.τ Cert.DequantIdeal.sig) → Buf (Elt Ideal) ℓ) (g : Dev Cert.DequantIdeal.nD → PrngReg), Pre_DequantIdeal m →
    θ_run (Cert.DequantIdeal.defs (F := Ideal)) (onTc (τ := Cert.DequantIdeal.τ) (Cert.DequantIdeal.main (F := Ideal))) ⟨m, fun _ => 0, g⟩ (fun r => (∀ c : Dev Cert.DequantIdeal.nD,
      r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
      ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ r.2.sem = fun _ => 0)

def quiescent_DequantReferenceIdeal [hDequantReferenceIdeal : Cert.DequantReferenceIdeal.Facts] : Prop :=
  ∀ (m : (ℓ : Loc Cert.DequantReferenceIdeal.nD Cert.DequantReferenceIdeal.τ Cert.DequantReferenceIdeal.sig) → Buf (Elt Ideal) ℓ) (g : Dev Cert.DequantReferenceIdeal.nD → PrngReg), Pre_DequantReferenceIdeal m →
    θ_run (Cert.DequantReferenceIdeal.defs (F := Ideal)) (onTc (τ := Cert.DequantReferenceIdeal.τ) (Cert.DequantReferenceIdeal.main (F := Ideal))) ⟨m, fun _ => 0, g⟩ (fun r => (∀ c : Dev Cert.DequantReferenceIdeal.nD,
      r.2.mem ((c.tc : Thread Cert.DequantReferenceIdeal.nD Cert.DequantReferenceIdeal.τ).loc Cert.DequantReferenceIdeal.main_arg0) = m ((c.tc : Thread Cert.DequantReferenceIdeal.nD Cert.DequantReferenceIdeal.τ).loc Cert.DequantReferenceIdeal.main_arg0)
      ∧ r.2.mem ((c.tc : Thread Cert.DequantReferenceIdeal.nD Cert.DequantReferenceIdeal.τ).loc Cert.DequantReferenceIdeal.main_arg1) = m ((c.tc : Thread Cert.DequantReferenceIdeal.nD Cert.DequantReferenceIdeal.τ).loc Cert.DequantReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dequant_DequantIdeal : Prop :=
  True

def algebraic_DequantIdeal_DequantReferenceIdeal [hDequantIdeal : Cert.DequantIdeal.Facts] [hDequantReferenceIdeal : Cert.DequantReferenceIdeal.Facts] : Prop :=
  ∀ (m : (ℓ : Loc Cert.DequantIdeal.nD Cert.DequantIdeal.τ Cert.DequantIdeal.sig) → Buf (Elt Ideal) ℓ) (g : Dev Cert.DequantIdeal.nD → PrngReg)
    (m' : (ℓ : Loc Cert.DequantReferenceIdeal.nD Cert.DequantReferenceIdeal.τ Cert.DequantReferenceIdeal.sig) → Buf (Elt Ideal) ℓ) (g' : Dev Cert.DequantReferenceIdeal.nD → PrngReg), Pre_DequantIdeal m →
    (∀ c : Dev Cert.DequantIdeal.nD,
      m' ((c.tc : Thread Cert.DequantReferenceIdeal.nD Cert.DequantReferenceIdeal.τ).loc Cert.DequantReferenceIdeal.main_arg0) = m ((c.tc : Thread Cert.DequantIdeal.nD Cert.DequantIdeal.τ).loc Cert.DequantIdeal.main_arg0)
      ∧ m' ((c.tc : Thread Cert.DequantReferenceIdeal.nD Cert.DequantReferenceIdeal.τ).loc Cert.DequantReferenceIdeal.main_arg1) = m ((c.tc : Thread Cert.DequantIdeal.nD Cert.DequantIdeal.τ).loc Cert.DequantIdeal.main_arg1)) →
    ∃ (v0 : (c : Dev Cert.DequantIdeal.nD) → Buf (Elt Ideal) ((c.tc : Thread Cert.DequantIdeal.nD Cert.DequantIdeal.τ).loc Cert.DequantIdeal.main_v1)),
      θ_run (Cert.DequantIdeal.defs (F := Ideal)) (onTc (τ := Cert.DequantIdeal.τ) (Cert.DequantIdeal.main (F := Ideal))) ⟨m, fun _ => 0, g⟩ (fun r => ∀ c : Dev Cert.DequantIdeal.nD,
          r.2.mem ((c.tc : Thread Cert.DequantIdeal.nD Cert.DequantIdeal.τ).loc Cert.DequantIdeal.main_v1) = v0 c
          ∧ r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
          ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ θ_run (Cert.DequantReferenceIdeal.defs (F := Ideal)) (onTc (τ := Cert.DequantReferenceIdeal.τ) (Cert.DequantReferenceIdeal.main (F := Ideal))) ⟨m', fun _ => 0, g'⟩ (fun r => ∀ c : Dev Cert.DequantReferenceIdeal.nD,
          r.2.mem ((c.tc : Thread Cert.DequantReferenceIdeal.nD Cert.DequantReferenceIdeal.τ).loc Cert.DequantReferenceIdeal.main_v14) = v0 c
          ∧ r.2.mem ((c.tc : Thread Cert.DequantReferenceIdeal.nD Cert.DequantReferenceIdeal.τ).loc Cert.DequantReferenceIdeal.main_arg0) = m' ((c.tc : Thread Cert.DequantReferenceIdeal.nD Cert.DequantReferenceIdeal.τ).loc Cert.DequantReferenceIdeal.main_arg0)
          ∧ r.2.mem ((c.tc : Thread Cert.DequantReferenceIdeal.nD Cert.DequantReferenceIdeal.τ).loc Cert.DequantReferenceIdeal.main_arg1) = m' ((c.tc : Thread Cert.DequantReferenceIdeal.nD Cert.DequantReferenceIdeal.τ).loc Cert.DequantReferenceIdeal.main_arg1))

def Claim : Prop :=
  ∃ (hKernel : Cert.Kernel.Facts) (hKernelIdeal : Cert.KernelIdeal.Facts) (hReferenceIdeal : Cert.ReferenceIdeal.Facts) (hDequant : Cert.Dequant.Facts) (hDequantIdeal : Cert.DequantIdeal.Facts) (hDequantReferenceIdeal : Cert.DequantReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_Dequant (hDequant := hDequant)
    ∧ quiescent_DequantIdeal (hDequantIdeal := hDequantIdeal)
    ∧ quiescent_DequantReferenceIdeal (hDequantReferenceIdeal := hDequantReferenceIdeal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_Dequant_DequantIdeal
    ∧ algebraic_DequantIdeal_DequantReferenceIdeal (hDequantIdeal := hDequantIdeal) (hDequantReferenceIdeal := hDequantReferenceIdeal)
-- ==== Pre_bounded.lean ====
abbrev S16384x1x7168 : Shape := ⟨3, ![16384, 1, 7168]⟩
abbrev S7168 : Shape := ⟨1, ![7168]⟩
abbrev S4608x7168 : Shape := ⟨2, ![4608, 7168]⟩
abbrev S_ : Shape := ⟨0, ![]⟩

class Facts : Prop where
  bcast_S_S7168 : S_.BroadcastsInDim S7168 (![] : Fin 0 → Fin S7168.rank)
  bitsLt_bf16_f32 : FTy.bits .bf16 < FTy.bits .f32
  bcast_S_S4608x7168 : S_.BroadcastsInDim S4608x7168 (![] : Fin 0 → Fin S4608x7168.rank)

variable [Facts]

def fn {F : FTy → Type} [FloatOps F] (main_arg0 : FVec F S16384x1x7168 .bf16) (main_arg1 : FVec F S7168 .f32) (main_arg2 : FVec F S4608x7168 .bf16) : IVec S7168 1 × IVec S4608x7168 1 :=
  let main_v0 : FVec F S7168 .f32 := Host.absf main_arg1
  let main_cst : FVec F S_ .f32 := constant S_ .f32 0x57800000#32
  let main_v1 : FVec F S7168 .f32 := broadcastInDim S7168 ![] bcast_S_S7168 main_cst
  let main_v2 : IVec S7168 1 := cmpf .ole main_v0 main_v1
  let main_v3 : FVec F S4608x7168 .f32 := (extf .f32 · bitsLt_bf16_f32) main_arg2
  let main_v4 : FVec F S4608x7168 .f32 := Host.absf main_v3
  let main_cst_0 : FVec F S_ .f32 := constant S_ .f32 0x57800000#32
  let main_v5 : FVec F S4608x7168 .f32 := broadcastInDim S4608x7168 ![] bcast_S_S4608x7168 main_cst_0
  let main_v6 : IVec S4608x7168 1 := cmpf .ole main_v4 main_v5
  (main_v2, main_v6)
-- ==== Kernel.lean ====
abbrev S16384x1x7168 : Shape := ⟨3, ![16384, 1, 7168]⟩
abbrev S7168 : Shape := ⟨1, ![7168]⟩
abbrev S4608x7168 : Shape := ⟨2, ![4608, 7168]⟩
abbrev S16384x7168 : Shape := ⟨2, ![16384, 7168]⟩
abbrev S1x7168 : Shape := ⟨2, ![1, 7168]⟩
abbrev S16384x4608 : Shape := ⟨2, ![16384, 4608]⟩
abbrev S16384x36 : Shape := ⟨2, ![16384, 36]⟩
abbrev S1024x7168 : Shape := ⟨2, ![1024, 7168]⟩
abbrev S512x7168 : Shape := ⟨2, ![512, 7168]⟩
abbrev S1024x512 : Shape := ⟨2, ![1024, 512]⟩
abbrev S1024x36 : Shape := ⟨2, ![1024, 36]⟩
abbrev S16x7168 : Shape := ⟨2, ![16, 7168]⟩
abbrev S16 : Shape := ⟨1, ![16]⟩
abbrev S16x1 : Shape := ⟨2, ![16, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1x7168, .bf16⟩
  | .hbm, ⟨1, _⟩ => ⟨S7168, .f32⟩
  | .hbm, ⟨2, _⟩ => ⟨S4608x7168, .bf16⟩
  | .hbm, ⟨3, _⟩ => ⟨S16384x7168, .bf16⟩
  | .hbm, ⟨4, _⟩ => ⟨S1x7168, .f32⟩
  | .hbm, ⟨5, _⟩ => ⟨S16384x4608, .fp8e4m3⟩
  | .hbm, ⟨6, _⟩ => ⟨S16384x36, .f32⟩
  | .local _ .vmem, ⟨0, _⟩ => ⟨S1024x7168, .bf16⟩
  | .local _ .vmem, ⟨1, _⟩ => ⟨S1024x7168, .bf16⟩
  | .local _ .vmem, ⟨2, _⟩ => ⟨S1x7168, .f32⟩
  | .local _ .vmem, ⟨3, _⟩ => ⟨S512x7168, .bf16⟩
  | .local _ .vmem, ⟨4, _⟩ => ⟨S512x7168, .bf16⟩
  | .local _ .vmem, ⟨5, _⟩ => ⟨S1024x512, .fp8e4m3⟩
  | .local _ .vmem, ⟨6, _⟩ => ⟨S1024x512, .fp8e4m3⟩
  | .local _ .vmem, ⟨7, _⟩ => ⟨S1024x36, .f32⟩
  | .local _ .vmem, ⟨8, _⟩ => ⟨S1024x36, .f32⟩
  | .local _ .vmem, ⟨9, _⟩ => ⟨S1024x7168, .bf16⟩
  | _, _ => ⟨S16384x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_126 : BitVec 32 := 0#32
  let c64_i32 : BitVec 32 := 64#32
  let v391 : BitVec 32 := Scalar.addi c0_i32_126 c64_i32
  let c1_i32_127 : BitVec 32 := 1#32
  ⟨c0_i32_126, v391, c1_i32_127⟩
def k0_mult1 (k0_t1 : Fin k0_t1_loop.trips) : BitVec 32 :=
  let c0_i32_126 : BitVec 32 := 0#32
  let c1_i32_127 : BitVec 32 := 1#32
  let arg8 : BitVec 32 := Scf.iv c0_i32_126 c1_i32_127 k0_t1
  let c16_i32 : BitVec 32 := 16#32
  let v392 : BitVec 32 := Scalar.muli arg8 c16_i32
  v392
def k0_off1 (k0_t1 : Fin k0_t1_loop.trips) : Fin 2 → Nat :=
  let c0_i32_126 : BitVec 32 := 0#32
  let c1_i32_127 : BitVec 32 := 1#32
  let arg8 : BitVec 32 := Scf.iv c0_i32_126 c1_i32_127 k0_t1
  let c16_i32 : BitVec 32 := 16#32
  let v392 : BitVec 32 := Scalar.muli arg8 c16_i32
  let v393 : BitVec 32 := v392
  let v394 : Index := Scalar.indexCast v393
  let c0_129 : Index := 0#32
  ![v394.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x36 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16384x1x7168 : Shape := ⟨3, ![16384, 1, 7168]⟩
abbrev S7168 : Shape := ⟨1, ![7168]⟩
abbrev S4608x7168 : Shape := ⟨2, ![4608, 7168]⟩
abbrev S253 : Shape := ⟨1, ![253]⟩
abbrev S_ : Shape := ⟨0, ![]⟩
abbrev S16384x1 : Shape := ⟨2, ![16384, 1]⟩
abbrev S16384x1x1 : Shape := ⟨3, ![16384, 1, 1]⟩
abbrev S1x1x7168 : Shape := ⟨3, ![1, 1, 7168]⟩
abbrev S16384x1x4608 : Shape := ⟨3, ![16384, 1, 4608]⟩
abbrev S16384x36x128 : Shape := ⟨3, ![16384, 36, 128]⟩
abbrev S16384x36 : Shape := ⟨2, ![16384, 36]⟩
abbrev S16384x36x1 : Shape := ⟨3, ![16384, 36, 1]⟩
abbrev S1x1x253 : Shape := ⟨3, ![1, 1, 253]⟩
abbrev S16384x36x253 : Shape := ⟨3, ![16384, 36, 253]⟩
abbrev S16384x4608 : Shape := ⟨2, ![16384, 4608]⟩

abbrev nBuf : Space → Nat
  | .hbm => 66
  | .vmem => 2
  | .smem => 0
  | _ => 0

abbrev bufTy : (tb : Table) → Fin (tcTables nBuf tb) → BufTy
  | .hbm, ⟨0, _⟩ => ⟨S16384x1x7168, .bf16⟩
  | .hbm, ⟨1, _⟩ => ⟨S7168, .f32⟩
  | .hbm, ⟨2, _⟩ => ⟨S4608x7168, .bf16⟩
  | .hbm, ⟨3, _⟩ => ⟨S253, .f32⟩
  | .hbm, ⟨4, _⟩ => ⟨S16384x1x7168, .f32⟩
  | .hbm, ⟨5, _⟩ => ⟨S16384x1x7168, .f32⟩
  | .hbm, ⟨6, _⟩ => ⟨S_, .f32⟩
  | .hbm, ⟨7, _⟩ => ⟨S16384x1, .f32⟩
  | .hbm, ⟨8, _⟩ => ⟨S16384x1x1, .f32⟩
  | .hbm, ⟨9, _⟩ => ⟨S_, .f32⟩
  | .hbm, ⟨10, _⟩ => ⟨S16384x1x1, .f32⟩
  | .hbm, ⟨11, _⟩ => ⟨S16384x1x1, .f32⟩
  | .hbm, ⟨12, _⟩ => ⟨S_, .f32⟩
  | .hbm, ⟨13, _⟩ => ⟨S16384x1x1, .f32⟩
  | .hbm, ⟨14, _⟩ => ⟨S16384x1x1, .f32⟩
  | .hbm, ⟨15, _⟩ => ⟨S16384x1x1, .f32⟩
  | .hbm, ⟨16, _⟩ => ⟨S16384x1x7168, .f32⟩
  | .hbm, ⟨17, _⟩ => ⟨S16384x1x7168, .f32⟩
  | .hbm, ⟨18, _⟩ => ⟨S1x1x7168, .f32⟩
  | .hbm, ⟨19, _⟩ => ⟨S16384x1x7168, .f32⟩
  | .hbm, ⟨20, _⟩ => ⟨S16384x1x7168, .f32⟩
  | .hbm, ⟨21, _⟩ => ⟨S16384x1x7168, .bf16⟩
  | .hbm, ⟨22, _⟩ => ⟨S16384x1x4608, .f32⟩
  | .hbm, ⟨23, _⟩ => ⟨S16384x36x128, .f32⟩
  | .hbm, ⟨24, _⟩ => ⟨S16384x36x128, .f32⟩
  | .hbm, ⟨25, _⟩ => ⟨S_, .f32⟩
  | .hbm, ⟨26, _⟩ => ⟨S16384x36, .f32⟩
  | .hbm, ⟨27, _⟩ => ⟨S16384x36x1, .f32⟩
  | .hbm, ⟨28, _⟩ => ⟨S_, .f32⟩
  | .hbm, ⟨29, _⟩ => ⟨S16384x36x1, .f32⟩
  | .hbm, ⟨30, _⟩ => ⟨S16384x36x1, .f32⟩
  | .hbm, ⟨31, _⟩ => ⟨S1x1x253, .f32⟩
  | .hbm, ⟨32, _⟩ => ⟨S16384x36x253, .f32⟩
  | .hbm, ⟨33, _⟩ => ⟨S16384x36x253, .f32⟩
  | .hbm, ⟨34, _⟩ => ⟨S16384x36x253, .i1⟩
  | .hbm, ⟨35, _⟩ => ⟨S_, .f32⟩
  | .hbm, ⟨36, _⟩ => ⟨S_, .f32⟩
  | .hbm, ⟨37, _⟩ => ⟨S16384x36x253, .f32⟩
  | .hbm, ⟨38, _⟩ => ⟨S16384x36x253, .f32⟩
  | .hbm, ⟨39, _⟩ => ⟨S16384x36x253, .f32⟩
  | .hbm, ⟨40, _⟩ => ⟨S_, .f32⟩
  | .hbm, ⟨41, _⟩ => ⟨S16384x36, .f32⟩
  | .hbm, ⟨42, _⟩ => ⟨S16384x36x1, .f32⟩
  | .hbm, ⟨43, _⟩ => ⟨S_, .f32⟩
  | .hbm, ⟨44, _⟩ => ⟨S16384x36x1, .f32⟩
  | .hbm, ⟨45, _⟩ => ⟨S16384x36x1, .i1⟩
  | .hbm, ⟨46, _⟩ => ⟨S_, .f32⟩
  | .hbm, ⟨47, _⟩ => ⟨S_, .f32⟩
  | .hbm, ⟨48, _⟩ => ⟨S16384x36x1, .f32⟩
  | .hbm, ⟨49, _⟩ => ⟨S16384x36x1, .f32⟩
  | .hbm, ⟨50, _⟩ => ⟨S_, .f32⟩
  | .hbm, ⟨51, _⟩ => ⟨S16384x36x1, .f32⟩
  | .hbm, ⟨52, _⟩ => ⟨S16384x36x1, .f32⟩
  | .hbm, ⟨53, _⟩ => ⟨S16384x36x128, .f32⟩
  | .hbm, ⟨54, _⟩ => ⟨S16384x36x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16384x36x128, .f32⟩
  | .hbm, ⟨59, _⟩ => ⟨S16384x36x128, .f32⟩
  | .hbm, ⟨60, _⟩ => ⟨S_, .f32⟩
  | .hbm, ⟨61, _⟩ => ⟨S16384x36x128, .f32⟩
  | .hbm, ⟨62, _⟩ => ⟨S16384x36x128, .f32⟩
  | .hbm, ⟨63, _⟩ => ⟨S16384x36, .f32⟩
  | .hbm, ⟨64, _⟩ => ⟨S16384x4608, .f32⟩
  | .hbm, ⟨65, _⟩ => ⟨S16384x4608, .fp8e4m3⟩
  | .local _ .vmem, ⟨0, _⟩ => ⟨S16384x4608, .f32⟩
  | .local _ .vmem, ⟨1, _⟩ => ⟨S16384x4608, .fp8e4m3⟩
  | _, _ => ⟨S16384x1x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_call1_v0 : Ref sig .tc := ⟨.hbm, 47, rfl⟩
abbrev main_call1_v1 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_cst_11 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Dequant.lean ====
abbrev S4608x3584 : Shape := ⟨2, ![4608, 3584]⟩
abbrev S4608x224 : Shape := ⟨2, ![4608, 224]⟩
abbrev S_ : Shape := ⟨0, ![]⟩
abbrev S4608x256 : Shape := ⟨2, ![4608, 256]⟩
abbrev S4608x7168 : Shape := ⟨2, ![4608, 7168]⟩
abbrev S256x3584 : Shape := ⟨2, ![256, 3584]⟩
abbrev S256x256 : Shape := ⟨2, ![256, 256]⟩
abbrev S256x7168 : Shape := ⟨2, ![256, 7168]⟩
abbrev S64x128 : Shape := ⟨2, ![64, 128]⟩
abbrev S256x128 : Shape := ⟨2, ![256, 128]⟩
abbrev S64x128x1 : Shape := ⟨3, ![64, 128, 1]⟩
abbrev S256x128x1 : Shape := ⟨3, ![256, 128, 1]⟩

abbrev nBuf : Space → Nat
  | .hbm => 6
  | .vmem => 6
  | .smem => 0
  | _ => 0

abbrev bufTy : (tb : Table) → Fin (tcTables nBuf tb) → BufTy
  | .hbm, ⟨0, _⟩ => ⟨S4608x3584, .i8⟩
  | .hbm, ⟨1, _⟩ => ⟨S4608x224, .bf16⟩
  | .hbm, ⟨2, _⟩ => ⟨S_, .i32⟩
  | .hbm, ⟨3, _⟩ => ⟨S_, .bf16⟩
  | .hbm, ⟨4, _⟩ => ⟨S4608x256, .bf16⟩
  | .hbm, ⟨5, _⟩ => ⟨S4608x7168, .bf16⟩
  | .local _ .vmem, ⟨0, _⟩ => ⟨S256x3584, .i8⟩
  | .local _ .vmem, ⟨1, _⟩ => ⟨S256x3584, .i8⟩
  | .local _ .vmem, ⟨2, _⟩ => ⟨S256x256, .bf16⟩
  | .local _ .vmem, ⟨3, _⟩ => ⟨S256x256, .bf16⟩
  | .local _ .vmem, ⟨4, _⟩ => ⟨S256x7168, .bf16⟩
  | .local _ .vmem, ⟨5, _⟩ => ⟨S256x7168, .bf16⟩
  | _, _ => ⟨S4608x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DequantReferenceIdeal.lean ====
abbrev S4608x3584 : Shape := ⟨2, ![4608, 3584]⟩
abbrev S4608x224 : Shape := ⟨2, ![4608, 224]⟩
abbrev S2 : Shape := ⟨1, ![2]⟩
abbrev S4608x224x1x16 : Shape := ⟨4, ![4608, 224, 1, 16]⟩
abbrev S1x1x2x1 : Shape := ⟨4, ![1, 1, 2, 1]⟩
abbrev S4608x224x2x16 : Shape := ⟨4, ![4608, 224, 2, 16]⟩
abbrev S_ : Shape := ⟨0, ![]⟩
abbrev S4608x224x1x1 : Shape := ⟨4, ![4608, 224, 1, 1]⟩
abbrev S4608x7168 : Shape := ⟨2, ![4608, 7168]⟩

abbrev nBuf : Space → Nat
  | .hbm => 20
  | .vmem => 0
  | .smem => 0
  | _ => 0

abbrev bufTy : (tb : Table) → Fin (tcTables nBuf tb) → BufTy
  | .hbm, ⟨0, _⟩ => ⟨S4608x3584, .i8⟩
  | .hbm, ⟨1, _⟩ => ⟨S4608x224, .bf16⟩
  | .hbm, ⟨2, _⟩ => ⟨S2, .i32⟩
  | .hbm, ⟨3, _⟩ => ⟨S4608x3584, .i32⟩
  | .hbm, ⟨4, _⟩ => ⟨S4608x224x1x16, .i32⟩
  | .hbm, ⟨5, _⟩ => ⟨S1x1x2x1, .i32⟩
  | .hbm, ⟨6, _⟩ => ⟨S4608x224x2x16, .i32⟩
  | .hbm, ⟨7, _⟩ => ⟨S4608x224x2x16, .i32⟩
  | .hbm, ⟨8, _⟩ => ⟨S4608x224x2x16, .i32⟩
  | .hbm, ⟨9, _⟩ => ⟨S_, .i32⟩
  | .hbm, ⟨10, _⟩ => ⟨S4608x224x2x16, .i32⟩
  | .hbm, ⟨11, _⟩ => ⟨S4608x224x2x16, .i32⟩
  | .hbm, ⟨12, _⟩ => ⟨S4608x224x2x16, .bf16⟩
  | .hbm, ⟨13, _⟩ => ⟨S_, .bf16⟩
  | .hbm, ⟨14, _⟩ => ⟨S4608x224x2x16, .bf16⟩
  | .hbm, ⟨15, _⟩ => ⟨S4608x224x2x16, .bf16⟩
  | .hbm, ⟨16, _⟩ => ⟨S4608x224x1x1, .bf16⟩
  | .hbm, ⟨17, _⟩ => ⟨S4608x224x2x16, .bf16⟩
  | .hbm, ⟨18, _⟩ => ⟨S4608x224x2x16, .bf16⟩
  | .hbm, ⟨19, _⟩ => ⟨S4608x7168, .bf16⟩
  | _, _ => ⟨S4608x3584, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.DqPiece.lean ====
/-
  Hand-written, untrusted. What the body of the dequantise kernel stores, written once for its 56 pieces of 128 columns: `codesOf` (the four-bit
  codes of half a packed block), `scaleOf` (the scale of every lane's group), `piece`. The printed payloads are these functions.
-/
module

public import proofs.«01_k».proof.Proof.Gen.DequantIdeal.Value

@[expose] public section

-- rectangles of production extents: the elaborator's structural look recurses once per coordinate of the long axes
set_option maxRecDepth 16384

noncomputable section

namespace Cert.DequantIdeal.Gen

open Idealize.ShloMosaic Idealize.ShloMosaic.TcCoe Idealize.SL.Sem

variable {F : FTy → Type} [FloatOps F]

/-- An index below zero counts from the end. -/
def wrap64 (i : IVec S64x128 32) : IVec S64x128 32 :=
  select (cmpi .slt i (broadcast S64x128 0#32)) (addi i (broadcast S64x128 128#32)) i

/-- An index below zero counts from the end. -/
def wrap256 (i : IVec S256x128 32) : IVec S256x128 32 :=
  select (cmpi .slt i (broadcast S256x128 0#32)) (addi i (broadcast S256x128 128#32)) i

/-- The lane numbers of a block of packed words. -/
def lane64 : IVec S64x128 32 := iota .tc S64x128 32 [1] iota_S64x128_d1_w32

/-- The lane numbers of a block of bytes. -/
def lane256 : IVec S256x128 32 := iota .tc S256x128 32 [1] iota_S256x128_d1_w32

/-- The four-bit codes of 128 columns, as signed bytes: packed words `w`, read from byte column `a` on. -/
def codesOf (w : IVec S64x128 32) (a : BitVec 32) : IVec S256x128 8 :=
  bitcast S256x128 8
    (andi (shrui (dynamicGather 1 w (shapeCast S64x128 (shapeCast S64x128x1 (wrap64 (addi k0_pay2 (broadcast S64x128 a))) shapeCasts_S64x128_S64x128x1)
        shapeCasts_S64x128x1_S64x128)) (k0_pay3 lane64 16#32)) (broadcast S64x128 252645135#32)) bitcasts_S64x128_w32_S256x128_w8

/-- The scale of every lane's group, the first group being column `b` of `s`. -/
def scaleOf (s : Vec F S256x128 .bf16) (b : BitVec 32) : FVec F S256x128 .bf16 :=
  truncf .bf16 (dynamicGather 1 (extf .f32 (shapeCast S256x128 s shapeCasts_S256x128_S256x128 : FVec F S256x128 .bf16) bitsLt_bf16_f32)
    (shapeCast S256x128 (shapeCast S256x128x1 (wrap256 (addi
      (select (andi (cmpi .ne
            (subi (extui 32 (cmpi .sgt lane256 (broadcast S256x128 0#32)) natLt_1_32) (extui 32 (cmpi .slt lane256 (broadcast S256x128 0#32)) natLt_1_32))
            (broadcast S256x128 (Scalar.subi (Scalar.extui (Scalar.cmpi .sgt 32#32 0#32)) (Scalar.extui (Scalar.cmpi .slt 32#32 0#32)))))
          (cmpi .ne (remsi lane256 (broadcast S256x128 32#32)) (broadcast S256x128 0#32)))
        (subi (divsi lane256 (broadcast S256x128 32#32)) (broadcast S256x128 1#32)) (divsi lane256 (broadcast S256x128 32#32)))
      (broadcast S256x128 b))) shapeCasts_S256x128_S256x128x1) shapeCasts_S256x128x1_S256x128)) bitsLt_bf16_f32

/-- Packed block `k`: columns `128 k` to `128 k + 127`. -/
def packed (x0 : Vec F S256x3584 .i8) (k : Fin 28) : Vec F S256x128 .i8 :=
  View.ld x0 (Rect.unit (s := S256x3584) ![0, 128 * k.val] S256x128.size (by have := k.isLt; intro a; fin_cases a; exact le_rfl; show 128 * k.val + 128 ≤ 3584; omega))

/-- Scale block `k`: columns `128 k` to `128 k + 127`. -/
def scales (x1 : Vec F S256x256 .bf16) (k : Fin 2) : Vec F S256x128 .bf16 :=
  View.ld x1 (Rect.unit (s := S256x256) ![0, 128 * k.val] S256x128.size (by have := k.isLt; intro a; fin_cases a; exact le_rfl; show 128 * k.val + 128 ≤ 256; omega))

/-- What is stored at columns `128 t` to `128 t + 127`. -/
def piece (x0 : Vec F S256x3584 .i8) (x1 : Vec F S256x256 .bf16) (t : Fin 56) : FVec F S256x128 .bf16 :=
  mulf (subf (sitofp .bf16 (codesOf (bitcast S64x128 32 (packed x0 ⟨t.val / 2, by omega⟩) bitcasts_S256x128_w8_S64x128_w32) (BitVec.ofNat 32 (64 * (t.val % 2)))))
      (broadcast S256x128 (Scalar.ofBits .bf16 0x4100#16)))
    (scaleOf (scales x1 ⟨t.val / 32, by omega⟩) (BitVec.ofNat 32 (4 * (t.val % 32))))

/-- Columns `128 t` to `128 t + 127` of the output block. -/
def place (t : Fin 56) : Rect S256x7168 :=
  Rect.unit (s := S256x7168) ![0, 128 * t.val] S256x128.size (by have := t.isLt; intro a; fin_cases a; exact le_rfl; show 128 * t.val + 128 ≤ 7168; omega)

/-- The piece stored at `t`. -/
def stored (x0 : Vec F S256x3584 .i8) (x1 : Vec F S256x256 .bf16) (t : Fin 56) : View.Piece (Elt F) S256x7168 .bf16 := ⟨place t, piece x0 x1 t⟩

/-- The body's stores, last first. -/
theorem out_eq (x0 : Vec F S256x3584 .i8) (x1 : Vec F S256x256 .bf16) :
    out0_2 x0 x1 = View.canon (List.ofFn fun t : Fin 56 => stored x0 x1 (Fin.rev t)) := by
  unfold out0_2
  congr 1

end Cert.DequantIdeal.Gen

end
-- ==== Proof.DqLanes.lean ====
/-
  Hand-written, untrusted. A piece of the dequantise kernel's output at an index: lane `l` reads byte column `64 h + 16 (l / 32) + l % 16` of its
  packed block, the low or high four bits by `l / 16 % 2`, and the scale column of its group of 32 lanes.
-/
module

public import proofs.«01_k».proof.Proof.DqPiece
public import Idealize.ShloMosaic.Lib.Pointwise
public import Idealize.ShloMosaic.Lib.BitcastPair
public import Idealize.ShloMosaic.Lib.Pipeline.ValueKit

@[expose] public section

-- rectangles of production extents: the elaborator's structural look recurses once per coordinate of the long axes
set_option maxRecDepth 16384

noncomputable section

namespace Cert.DequantIdeal.Gen

open Idealize.ShloMosaic Idealize.ShloMosaic.TcCoe Idealize.SL.Sem

variable {F : FTy → Type} [FloatOps F]

/-- The byte column of a lane, in the first half of its packed block. -/
theorem pay2_apply (r : Fin 64) (l : Fin 128) : k0_pay2 (ix2 r l) = BitVec.ofNat 32 (16 * (l.val / 32) + l.val % 16) := by
  pointwise [k0_pay2]
  revert l
  decide +kernel

/-- The shift of a lane. -/
theorem pay3_apply (r : Fin 64) (l : Fin 128) : k0_pay3 lane64 16#32 (ix2 r l) = BitVec.ofNat 32 (4 * (l.val / 16 % 2)) := by
  pointwise [k0_pay3, lane64]
  revert l
  decide +kernel

/-- The byte column that lane `l` reads in half `h` of its packed block. -/
def byteOf (h : Fin 2) (l : Fin 128) : Fin 128 := ⟨64 * h.val + 16 * (l.val / 32) + l.val % 16, by have := h.isLt; have := l.isLt; omega⟩

theorem byte_index : ∀ (h : Fin 2) (l : Fin 128),
    (Scalar.select (IntOp.cmpi CmpIPredicate.slt (IntOp.addi (BitVec.ofNat 32 (16 * (l.val / 32) + l.val % 16)) (BitVec.ofNat 32 (64 * h.val))) 0#32)
      (IntOp.addi (IntOp.addi (BitVec.ofNat 32 (16 * (l.val / 32) + l.val % 16)) (BitVec.ofNat 32 (64 * h.val))) 128#32)
      (IntOp.addi (BitVec.ofNat 32 (16 * (l.val / 32) + l.val % 16)) (BitVec.ofNat 32 (64 * h.val)))).toNat % 128 = (byteOf h l).val := by
  decide +kernel

theorem shift_apply (x : BitVec 32) : ∀ (l : Fin 128), IntOp.shrui ArithUnit.vector x (BitVec.ofNat 32 (4 * (l.val / 16 % 2))) = x >>> (4 * (l.val / 16 % 2)) := by
  intro l
  obtain h | h : l.val / 16 % 2 = 0 ∨ l.val / 16 % 2 = 1 := by omega
  · rw [h]; simp [IntOp.shrui, IntOp.cornerWord]
  · rw [h]; simp [IntOp.shrui, IntOp.cornerWord]

/-- The packed codes of a lane, four to a word. -/
theorem word_apply (w : IVec S64x128 32) (h : Fin 2) (r : Fin 64) (l : Fin 128) :
    andi (shrui (dynamicGather 1 w (shapeCast S64x128 (shapeCast S64x128x1 (wrap64 (addi k0_pay2 (broadcast S64x128 (BitVec.ofNat 32 (64 * h.val)))))
        shapeCasts_S64x128_S64x128x1) shapeCasts_S64x128x1_S64x128)) (k0_pay3 lane64 16#32)) (broadcast S64x128 252645135#32) (ix2 r l)
      = (w (ix2 r (byteOf h l)) >>> (4 * (l.val / 16 % 2))) &&& 252645135#32 := by
  pointwise [wrap64]
  simp only [pay2_apply, pay3_apply]
  rw [shift_apply]
  refine congrArg (fun k : Fin 128 => (w (ix2 r k) >>> (4 * (l.val / 16 % 2))) &&& 252645135#32) (Fin.ext ?_)
  exact byte_index h l

theorem mask_word : ∀ (k : Fin 4) (q : Fin 8), (252645135#32).getLsbD (8 * k.val + q.val) = decide (q.val < 4) := by decide +kernel

theorem mask_byte : ∀ q : Fin 8, (15#8).getLsbD q.val = decide (q.val < 4) := by decide +kernel

/-- The code of a lane: four bits of its byte. -/
theorem codes_apply (x : IVec S256x128 8) (h : Fin 2) (r : Fin 256) (l : Fin 128) :
    codesOf (bitcast S64x128 32 x bitcasts_S256x128_w8_S64x128_w32) (BitVec.ofNat 32 (64 * h.val)) (ix2 r l)
      = (x (ix2 r (byteOf h l)) >>> (4 * (l.val / 16 % 2))) &&& 15#8 := by
  have hr := r.isLt
  apply BitVec.eq_of_getLsbD_eq
  intro q hq
  unfold codesOf
  rw [bitcast_getLsbD _ _ _ q hq (by decide)]
  have hrow : S256x128.row (ix2 r l) = r.val := rfl
  have e1 : ∀ (p : ℕ) (hp), p = r.val / 4 →
      Shape.Bitcasts.srcIdx bitcasts_S64x128_w32_S256x128_w8 (ix2 r l) p hp = (ix2 ⟨r.val / 4, by omega⟩ l : S64x128.Idx) := by
    rintro p hp rfl
    funext a; fin_cases a <;> rfl
  rw [e1 _ _ (by rw [hrow]; omega), word_apply, BitVec.getLsbD_and, BitVec.getLsbD_ushiftRight, BitVec.getLsbD_and, BitVec.getLsbD_ushiftRight,
    mask_byte ⟨q, hq⟩, hrow, show (r.val * 8 + q) % 32 = 8 * (r.val % 4) + q by omega, mask_word ⟨r.val % 4, by omega⟩ ⟨q, hq⟩]
  by_cases h4 : q < 4
  · have hs : 4 * (l.val / 16 % 2) + q < 8 := by omega
    rw [bitcast_getLsbD _ _ _ _ (by omega) (by decide)]
    have hrow' : S64x128.row (ix2 (⟨r.val / 4, by omega⟩ : Fin 64) (byteOf h l)) = r.val / 4 := rfl
    have e2 : ∀ (p : ℕ) (hp), p = r.val →
        Shape.Bitcasts.srcIdx bitcasts_S256x128_w8_S64x128_w32 (ix2 (⟨r.val / 4, by omega⟩ : Fin 64) (byteOf h l)) p hp = (ix2 r (byteOf h l) : S256x128.Idx) := by
      rintro p hp rfl
      funext a; fin_cases a <;> rfl
    rw [e2 _ _ (by rw [hrow']; omega), hrow']
    congr 2
    omega
  · simp [h4]

theorem group_index : ∀ l : Fin 128,
    (Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 32#32 0#32)) (Scalar.extui (Scalar.cmpi CmpIPredicate.slt 32#32 0#32))))
        (IntOp.cmpi CmpIPredicate.ne (IntOp.remsi ArithUnit.vector (BitVec.ofNat 32 l.val) 32#32) 0#32))
      (IntOp.subi (IntOp.divsi ArithUnit.vector (BitVec.ofNat 32 l.val) 32#32) 1#32)
      (IntOp.divsi ArithUnit.vector (BitVec.ofNat 32 l.val) 32#32) : BitVec 32) = BitVec.ofNat 32 (l.val / 32) := by
  decide +kernel

theorem scale_index : ∀ (u : Fin 32) (g : Fin 4),
    (Scalar.select (IntOp.cmpi CmpIPredicate.slt (IntOp.addi (BitVec.ofNat 32 g.val) (BitVec.ofNat 32 (4 * u.val))) 0#32)
      (IntOp.addi (IntOp.addi (BitVec.ofNat 32 g.val) (BitVec.ofNat 32 (4 * u.val))) 128#32)
      (IntOp.addi (BitVec.ofNat 32 g.val) (BitVec.ofNat 32 (4 * u.val)))).toNat % 128 = 4 * u.val + g.val := by
  decide +kernel

/-- The scale of a lane: column `4 u + l / 32`. -/
theorem scale_apply (s : Vec Ideal S256x128 .bf16) (u : Fin 32) (r : Fin 256) (l : Fin 128) :
    scaleOf s (BitVec.ofNat 32 (4 * u.val)) (ix2 r l)
      = s (ix2 r ⟨4 * u.val + l.val / 32, by have := u.isLt; have := l.isLt; omega⟩) := by
  pointwise [scaleOf, wrap256, lane256]
  simp only [group_index]
  refine congrArg (fun k : Fin 128 => s (ix2 r k)) (Fin.ext ?_)
  exact scale_index u ⟨l.val / 32, by have := l.isLt; omega⟩

/-- What output column `q` holds: the four-bit code less eight, times the scale of its group. -/
def val (b : BitVec 8) (h : ℕ) (s : EReal) : EReal :=
  (((((b >>> (4 * h)) &&& 15#8).toInt : ℝ) : EReal) - Ideal.ofBits .bf16 0x4100#16) * s

/-- A piece at an index. -/
theorem piece_apply (x0 : Vec Ideal S256x3584 .i8) (x1 : Vec Ideal S256x256 .bf16) (t : Fin 56) (r : Fin 256) (l : Fin 128) :
    piece x0 x1 t (ix2 r l) = val (x0 (ix2 r ⟨64 * t.val + 16 * (l.val / 32) + l.val % 16, by have := t.isLt; have := l.isLt; omega⟩)) (l.val / 16 % 2)
      (x1 (ix2 r ⟨4 * t.val + l.val / 32, by have := t.isLt; have := l.isLt; omega⟩)) := by
  have ht := t.isLt
  have hl := l.isLt
  pointwise [piece]
  rw [codes_apply (packed x0 ⟨t.val / 2, by omega⟩) ⟨t.val % 2, by omega⟩ r l, scale_apply _ ⟨t.val % 32, by omega⟩ r l]
  have e0 : packed x0 ⟨t.val / 2, by omega⟩ (ix2 r (byteOf ⟨t.val % 2, by omega⟩ l)) = x0 (ix2 r ⟨64 * t.val + 16 * (l.val / 32) + l.val % 16, by omega⟩) := by
    refine View.ld_unit_apply_of _ _ _ _ _ _ fun a => ?_
    fin_cases a
    · show r.val = 0 + r.val; omega
    · show 64 * t.val + 16 * (l.val / 32) + l.val % 16 = 128 * (t.val / 2) + (64 * (t.val % 2) + 16 * (l.val / 32) + l.val % 16); omega
  have e1 : scales x1 ⟨t.val / 32, by omega⟩ (ix2 r ⟨4 * (t.val % 32) + l.val / 32, by omega⟩) = x1 (ix2 r ⟨4 * t.val + l.val / 32, by omega⟩) := by
    refine View.ld_unit_apply_of _ _ _ _ _ _ fun a => ?_
    fin_cases a
    · show r.val = 0 + r.val; omega
    · show 4 * t.val + l.val / 32 = 128 * (t.val / 32) + (4 * (t.val % 32) + l.val / 32); omega
  rw [e0, e1]
  rfl

end Cert.DequantIdeal.Gen

end
-- ==== Proof.DqVal.lean ====
/-
  Hand-written, untrusted. The dequantise kernel's result array at an index.
-/
module

public import proofs.«01_k».proof.Proof.DqLanes
public import Idealize.ShloMosaic.Lib.KernelVsHost

@[expose] public section

-- rectangles of production extents: the elaborator's structural look recurses once per coordinate of the long axes
set_option maxRecDepth 16384

noncomputable section

namespace Cert.DequantIdeal.Gen

open Idealize.ShloMosaic Idealize.ShloMosaic.TcCoe Idealize.ShloMosaic.Tactic Idealize.SL.Sem

/-- The dequantised matrix: row `r`, column `q`. -/
def deq {n : ℕ} (p : Fin n → Fin 3584 → BitVec 8) (s : Fin n → Fin 224 → EReal) (r : Fin n) (q : Fin 7168) : EReal :=
  val (p r ⟨16 * (q.val / 32) + q.val % 16, by have := q.isLt; omega⟩) (q.val / 16 % 2) (s r ⟨q.val / 32, by have := q.isLt; omega⟩)

/-- The output block as one function of its index. -/
def outBlk (x0 : Vec Ideal S256x3584 .i8) (x1 : Vec Ideal S256x256 .bf16) : Vec Ideal S256x7168 .bf16 := fun i =>
  deq (fun r k => x0 (ix2 r k)) (fun r g => x1 (ix2 r ⟨g.val, by omega⟩)) (i 0) (i 1)

theorem out_eq_outBlk (x0 : Vec Ideal S256x3584 .i8) (x1 : Vec Ideal S256x256 .bf16) : out0_2 x0 x1 = outBlk x0 x1 := by
  rw [out_eq]
  funext y
  have hy : (y 1).val < 7168 := (y 1).isLt
  refine View.canon_apply_of_pieces (outBlk x0 x1) _ ?_ y ?_
  · intro p hp x
    obtain ⟨k, rfl⟩ := (List.mem_ofFn).mp hp
    generalize Fin.rev k = t
    have ht := t.isLt
    obtain ⟨r, l, rfl⟩ : ∃ (r : Fin 256) (l : Fin 128), x = ix2 r l := ⟨x 0, x 1, eq_ix2 x⟩
    have hl := l.isLt
    refine (piece_apply x0 x1 t r l).trans ?_
    have e : (place t).emb (ix2 r l) = (ix2 r ⟨128 * t.val + l.val, by omega⟩ : S256x7168.Idx) := by
      funext a; fin_cases a
      · exact Fin.ext (by show 0 + 1 * r.val = r.val; omega)
      · exact Fin.ext (by show 128 * t.val + 1 * l.val = 128 * t.val + l.val; omega)
    show _ = outBlk x0 x1 ((place t).emb (ix2 r l))
    rw [e]
    unfold outBlk deq
    have e1 : 64 * t.val + 16 * (l.val / 32) + l.val % 16 = 16 * ((128 * t.val + l.val) / 32) + (128 * t.val + l.val) % 16 := by omega
    have e2 : l.val / 16 % 2 = (128 * t.val + l.val) / 16 % 2 := by omega
    have e3 : 4 * t.val + l.val / 32 = (128 * t.val + l.val) / 32 := by omega
    simp only [e1, e2, e3]
    rfl
  · refine ⟨stored x0 x1 ⟨(y 1).val / 128, by omega⟩, (List.mem_ofFn).mpr ⟨Fin.rev ⟨(y 1).val / 128, by omega⟩, by rw [Fin.rev_rev]⟩, ?_⟩
    show y ∈ (place _).set
    unfold place
    rw [Rect.mem_set_unit]
    intro a
    fin_cases a
    · have h0 : (y 0).val < 256 := (y 0).isLt
      exact ⟨Nat.zero_le _, by show (y 0).val < 0 + 256; omega⟩
    · show 128 * ((y 1).val / 128) ≤ (y 1).val ∧ (y 1).val < 128 * ((y 1).val / 128) + 128; omega

variable (m : (ℓ : Loc nD τ sig) → Buf (Elt Ideal) ℓ) (ρ : Dev nD → PrngReg)

/-- The packed weight and its scales, as launched. -/
def Pa (c : Dev nD) (r : Fin 4608) (k : Fin 3584) : BitVec 8 := m ((c : Thread nD τ).loc main_arg0) (ix2 r k)
def Sa (c : Dev nD) (r : Fin 4608) (g : Fin 224) : EReal := m ((c : Thread nD τ).loc main_arg1) (ix2 r g)

theorem coord0 (t : Fin cfg0.N) : (grid0.coords t 0).val = t.val := by
  have ht : t.val < 18 := Nat.lt_of_lt_of_eq t.isLt N_0
  have e0 : (grid0.coords t 0).val = t.val / 1 % 18 := Pipeline.Grid.coords_val t 0 (by decide) rfl
  omega

theorem idx0 : ∀ t : Fin cfg0.N, win0_0.index t = ![t.val, 0] ∧ win0_1.index t = ![t.val, 0] ∧ win0_2.index t = ![t.val, 0] := by
  intro t
  have ht : t.val < 18 := Nat.lt_of_lt_of_eq t.isLt N_0
  have h0 : (BitVec.ofNat 32 (grid0.coords t 0).val).toNat = t.val := by
    rw [coord0, BitVec.toNat_ofNat]; omega
  rw [← h0]
  exact ⟨rfl, rfl, rfl⟩

theorem packed_apply (c : Dev nD) (t : Fin cfg0.N) (r : Fin 256) (k : Fin 3584) :
    (iblk m c 0 t : Vec Ideal S256x3584 .i8) (ix2 r k) = V m c main_arg0 (ix2 ⟨256 * t.val + r.val, by have ht : t.val < 18 := Nat.lt_of_lt_of_eq t.isLt N_0; omega⟩ k) := by
  blk_ext [iblk, idx0 t]

theorem scales_apply (c : Dev nD) (t : Fin cfg0.N) (r : Fin 256) (k : Fin 256) :
    (iblk m c 1 t : Vec Ideal S256x256 .bf16) (ix2 r k) = V m c main_v0 (ix2 ⟨256 * t.val + r.val, by have ht : t.val < 18 := Nat.lt_of_lt_of_eq t.isLt N_0; omega⟩ k) := by
  blk_ext [iblk, idx0 t]

/-- The scales padded to 256 columns. -/
def padded (s : Vec Ideal S4608x224 .bf16) : Vec Ideal S4608x256 .bf16 :=
  pad S4608x256 ![0, 0] ![0, 32] ![0, 0] s (sitofp (F := Ideal) .bf16 (constantI S_ 32 0#32)) pads_S4608x224_S4608x256_000_0320 h_S_

/-- The padded scales, in the columns that are not padding. -/
theorem padded_apply (c : Dev nD) (r : Fin 4608) (g : Fin 224) : V m c main_v0 (ix2 r ⟨g.val, by omega⟩) = Sa m c r g := by
  have e : (V m c main_v0 : Vec Ideal S4608x256 .bf16) = padded (m ((c : Thread nD τ).loc main_arg1)) := by
    show StableHlo.after _ _ _ = _
    simp only [hostOps0, hostOps0_1, List.flatten_cons, List.flatten_nil, List.append_nil, List.cons_append, List.nil_append]
    after_results_simp
    rfl
  rw [e]
  unfold padded
  refine pad_apply_of_inside _ _ _ _ _ _ _ _ (ix2 r g) fun a => ?_
  fin_cases a
  · show r.val = 0 + r.val * (0 + 1); omega
  · show g.val = 0 + g.val * (0 + 1); omega

/-- The result array. -/
def deqArr (c : Dev nD) : Vec Ideal S4608x7168 .bf16 := fun i => deq (Pa m c) (Sa m c) (i 0) (i 1)

theorem result (c : Dev nD) : (dats m 0 c).arrAt 2 cfg0.N = deqArr m c := by
  refine (dats m 0 c).arrAt_eq_of_covers 2 _ (by decide +kernel) fun t hf y => ?_
  rw [after0_2, out_eq_outBlk]
  obtain ⟨r, q, rfl⟩ : ∃ (r : Fin 256) (q : Fin 7168), y = ix2 r q := ⟨y 0, y 1, eq_ix2 y⟩
  have ht : t.val < 18 := Nat.lt_of_lt_of_eq t.isLt N_0
  have e : (win0_2.blk t).view.emb (ix2 r q) = (ix2 ⟨256 * t.val + r.val, by omega⟩ q : S4608x7168.Idx) := by
    funext a; fin_cases a
    · refine Fin.ext ?_; blk_simp [idx0 t]; show t.val * 256 + r.val = 256 * t.val + r.val; omega
    · refine Fin.ext ?_; blk_simp [idx0 t]; rfl
  show outBlk (iblk m c 0 t) (iblk m c 1 t) (ix2 r q) = deqArr m c ((win0_2.blk t).view.emb (ix2 r q))
  rw [e]
  show deq _ _ r q = deq _ _ ⟨256 * t.val + r.val, _⟩ q
  unfold deq
  congr 1
  · refine (packed_apply m c t r _).trans ?_
    rw [V_main_arg0]; rfl
  · refine (scales_apply m c t r _).trans ?_
    exact padded_apply m c _ ⟨q.val / 32, by omega⟩

end Cert.DequantIdeal.Gen

end
-- ==== Proof.DqRef.lean ====
/-
  Hand-written, untrusted. The dequantise reference's result at an index, its frame, and the dequantise claim.
-/
module

public import proofs.«01_k».proof.Defs
public import proofs.«01_k».proof.Proof.DqVal
public import proofs.«01_k».proof.Proof.Gen.DequantReferenceIdeal.Run
public import proofs.«01_k».proof.Proof.Gen.DequantReferenceIdeal
public import Idealize.ShloMosaic.Lib.Claim
public import Idealize.ShloMosaic.Lib.Quiescent

@[expose] public section

noncomputable section

namespace Cert.DequantReferenceIdeal.Gen

open Idealize.ShloMosaic Idealize.ShloMosaic.TcCoe Idealize.SL.Sem

variable {F : FTy → Type} [FloatOps F]

/-- The codes as words: group, half of the group, lane. -/
def codes (p : Vec F S4608x3584 .i8) : IVec S4608x224x2x16 32 :=
  andi (Host.shrui (broadcastInDim S4608x224x2x16 ![0, 1, 2, 3] bcast_S4608x224x1x16_S4608x224x2x16_0_1_2_3 (shapeCast _ (extui 32 p natLt_8_32) shapeCasts_S4608x3584_S4608x224x1x16))
    (broadcastInDim S4608x224x2x16 ![0, 1, 2, 3] bcast_S1x1x2x1_S4608x224x2x16_0_1_2_3 (shapeCast _ ((fun i => lit0 (S2.rowMajor i))) shapeCasts_S2_S1x1x2x1)))
    (broadcastInDim S4608x224x2x16 ![] bcast_S_S4608x224x2x16 (constantI S_ 32 15#32))

/-- The dequantised matrix by group, half of the group, lane. -/
def deqs (p : Vec F S4608x3584 .i8) (s : Vec F S4608x224 .bf16) : FVec F S4608x224x2x16 .bf16 :=
  mulf (subf (uitofp .bf16 (codes p)) (broadcastInDim S4608x224x2x16 ![] bcast_S_S4608x224x2x16 (constant S_ .bf16 0x4100#16)))
    (broadcastInDim S4608x224x2x16 ![0, 1, 2, 3] bcast_S4608x224x1x1_S4608x224x2x16_0_1_2_3 (broadcastInDim S4608x224x1x1 ![0, 1] bcast_S4608x224_S4608x224x1x1_0_1 s))

theorem shape_apply (x : FVec Ideal S4608x224x2x16 .bf16) (r : Fin 4608) (q : Fin 7168) :
    shapeCast S4608x7168 x shapeCasts_S4608x224x2x16_S4608x7168 (ix2 r q)
      = x (ix4 r ⟨q.val / 32, by omega⟩ ⟨q.val / 16 % 2, by omega⟩ ⟨q.val % 16, by omega⟩) := by
  pointwise []

/-- The shifts: none for the first half of a group, four for the second. -/
theorem shift_apply (h : Fin 2) : lit0 (S2.rowMajor (ix1 h)) = BitVec.ofNat 32 (4 * h.val) := by
  have e : S2.rowMajor (ix1 h) = h := Fin.ext (by show 0 * 2 + h.val = h.val; omega)
  rw [e]
  clear e
  revert h
  decide +kernel

/-- Four bits of a byte read as a word and as a signed byte are one number. -/
theorem code_eq : ∀ (b : BitVec 8) (h : Fin 2),
    ((IntOp.andi (IntOp.shrui ArithUnit.host (BitVec.setWidth 32 b) (BitVec.ofNat 32 (4 * h.val))) 15#32).toNat : ℤ) = ((b >>> (4 * h.val)) &&& 15#8).toInt := by
  decide +kernel

theorem codes_apply (p : Vec Ideal S4608x3584 .i8) (r : Fin 4608) (g : Fin 224) (h : Fin 2) (k : Fin 16) :
    codes p (ix4 r g h k)
      = IntOp.andi (IntOp.shrui ArithUnit.host (BitVec.setWidth 32 (p (ix2 r ⟨16 * g.val + k.val, by omega⟩) : BitVec 8)) (BitVec.ofNat 32 (4 * h.val))) 15#32 := by
  have e : (⟨g.val * 16 + k.val, by omega⟩ : Fin 3584) = ⟨16 * g.val + k.val, by omega⟩ := Fin.ext (by show g.val * 16 + k.val = 16 * g.val + k.val; omega)
  pointwise [codes]
  rw [shift_apply, e]

theorem deqs_apply (p : Vec Ideal S4608x3584 .i8) (s : Vec Ideal S4608x224 .bf16) (r : Fin 4608) (g : Fin 224) (h : Fin 2) (k : Fin 16) :
    deqs p s (ix4 r g h k) = Cert.DequantIdeal.Gen.val (p (ix2 r ⟨16 * g.val + k.val, by omega⟩)) h.val (s (ix2 r g)) := by
  have e : deqs p s (ix4 r g h k) = ((((codes p (ix4 r g h k)).toNat : ℝ) : EReal) - Ideal.ofBits .bf16 0x4100#16) * s (ix2 r g) := by
    pointwise [deqs]
    rfl
  rw [e, codes_apply]
  unfold Cert.DequantIdeal.Gen.val
  have hc := congrArg (fun z : ℤ => ((z : ℝ) : EReal)) (code_eq (p (ix2 r ⟨16 * g.val + k.val, by omega⟩)) h)
  simp only [Int.cast_natCast] at hc
  rw [hc]

/-- The reference's result. -/
theorem result_apply (p : Vec Ideal S4608x3584 .i8) (s : Vec Ideal S4608x224 .bf16) (r : Fin 4608) (q : Fin 7168) :
    shapeCast S4608x7168 (deqs p s) shapeCasts_S4608x224x2x16_S4608x7168 (ix2 r q)
      = Cert.DequantIdeal.Gen.deq (fun r k => p (ix2 r k)) (fun r g => s (ix2 r g)) r q := by
  rw [shape_apply, deqs_apply]
  rfl

end Cert.DequantReferenceIdeal.Gen

namespace Cert.DequantEqual

open Idealize.ShloMosaic Idealize.ShloMosaic.TcCoe Idealize.SL.Sem

attribute [local instance] Cert.DequantIdeal.Gen.facts Cert.DequantReferenceIdeal.Gen.facts

/-- The reference runs and leaves its arguments unchanged. It declares no semaphore, so every counter ends at zero. -/
theorem reference_frame : quiescent_DequantReferenceIdeal := fun m g _ =>
  θ_run_mono (Cert.DequantReferenceIdeal.Value.run m g) fun r h =>
    ⟨fun c => (h c).2, sem_eq_zero_of_no_sems (by decide) r.2⟩

/-- The value claim of the dequantise call. -/
theorem algebraic : algebraic_DequantIdeal_DequantReferenceIdeal := by
  intro m g m' g' _ hin
  refine ⟨fun c => Cert.DequantIdeal.Gen.deqArr m c, ?_, ?_⟩
  · exact θ_run_mono (Cert.DequantIdeal.Value.run_blocks m g) fun r h c =>
      ⟨(h c).1.trans (Cert.DequantIdeal.Gen.result m c), (h c).2.1, (h c).2.2⟩
  · refine θ_run_mono (Cert.DequantReferenceIdeal.Value.run m' g') fun r h c => ⟨(h c).1.trans ?_, (h c).2.1, (h c).2.2⟩
    rw [(hin c).1, (hin c).2]
    funext i
    obtain ⟨r, q, rfl⟩ : ∃ (r : Fin 4608) (q : Fin 7168), i = ix2 r q := ⟨i 0, i 1, eq_ix2 i⟩
    exact Cert.DequantReferenceIdeal.Gen.result_apply _ _ r q

end Cert.DequantEqual

end
-- ==== Proof.Base.lean ====
/-
  Hand-written, untrusted. What the two runs of the kernel body are stated over: the branch condition in closed form over the grid
  points, the staging and scratch memrefs, and the frame kit's invariant with the scratch operand as an owned memref.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 9) — by arithmetic of the point. -/
theorem hcond0_0 : ∀ t : Fin cfg0.N, cond0_0 (grid0.coords t) ↔ t.val % 9 = 0 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x36 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1024x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Blocks.lean ====
/-
  Hand-written, untrusted. What the kernel body computes from a normalised row tile and a weight tile, written once for the four blocks
  of 128 columns: `cols j` (block `j` of the product), `absmax` (its largest magnitude over 448, row by row), `field` (the exponent field
  that the search finds), `scaleOf`, `invOf`, `codesOf`, `put`. The printed payloads of every block are these functions.
-/
module

public import proofs.«01_k».proof.Proof.Base
public import Idealize.ShloMosaic.Lib.Pointwise
public import Idealize.ShloMosaic.Lib.VecWindow

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Column block `j` of the product. -/
def cols (j : Fin 4) (h : FVec F S1024x512 .f32) : FVec F S1024x128 .f32 :=
  fun i => h (ix2 (i 0) ⟨128 * j.val + (i 1).val, by have := j.isLt; have h1 : (i 1).val < 128 := (i 1).isLt; omega⟩)

/-- The largest magnitude of each row of a block, times the reciprocal of 448. -/
def absmax (hb : FVec F S1024x128 .f32) : FVec F S1024x1 .f32 :=
  mulf (shapeCast S1024x1 (multiReduction .maximumf [1] S1024 (absf hb) 0xFF800000#32 reduces_S1024x128_S1024 (.inl rfl) rfl) shapeCasts_S1024_S1024x1)
    (broadcast S1024x1 (Scalar.ofBits .f32 0x3B124925#32))

/-- One step of the search for the exponent field: the bit is kept if the number with that field is not above `v`. -/
def step (v : FVec F S1024x1 .f32) (b : BitVec 32) (f : IVec S1024x1 32) : IVec S1024x1 32 :=
  select (cmpf .oge v (bitcastToFloat .f32 (addi f (broadcast S1024x1 b)))) (addi f (broadcast S1024x1 b)) f

/-- The first three steps, from zero. -/
def field3 (v : FVec F S1024x1 .f32) : IVec S1024x1 32 :=
  step v 268435456#32 (step v 536870912#32 (step v 1073741824#32 (broadcast S1024x1 0#32)))

/-- The exponent field: all eight steps. -/
def field (v : FVec F S1024x1 .f32) : IVec S1024x1 32 :=
  step v 8388608#32 (step v 16777216#32 (step v 33554432#32 (step v 67108864#32 (step v 134217728#32 (field3 v)))))

/-- Neither the field of zero nor the field of infinity. -/
def regular (f : IVec S1024x1 32) : IVec S1024x1 1 :=
  andi (cmpi .ne f (broadcast S1024x1 0#32)) (cmpi .ne f (broadcast S1024x1 2139095040#32))

/-- The scale: the power of two one exponent up, or one. -/
def scaleOf (f : IVec S1024x1 32) : FVec F S1024x1 .f32 :=
  bitcastToFloat .f32 (select (regular f) (addi f (broadcast S1024x1 8388608#32)) (broadcast S1024x1 1065353216#32))

/-- The reciprocal of the scale. -/
def invOf (f : IVec S1024x1 32) : FVec F S1024x1 .f32 :=
  bitcastToFloat .f32 (select (regular f) (subi (broadcast S1024x1 2122317824#32) f) (broadcast S1024x1 1065353216#32))

/-- The codes of a block: scaled, clipped to ±448, cast. -/
def codesOf (hb : FVec F S1024x128 .f32) (inv : FVec F S1024x1 .f32) : FVec F S1024x128 .fp8e4m3 :=
  truncf .fp8e4m3 (minimumf (broadcast S1024x128 (Scalar.ofBits .f32 0x43E00000#32))
    (maximumf (broadcast S1024x128 (Scalar.ofBits .f32 0xC3E00000#32)) (mulf hb (broadcastTo S1024x128 inv broadcasts_S1024x1_S1024x128)))) bitsLt_fp8e4m3_f32

/-- A scale put in its lane of the scale block, the other lanes kept. -/
def put (a j : BitVec 32) (s : FVec F S1024x1 .f32) (Y : Vec F S1024x36 .f32) : FVec F S1024x36 .f32 :=
  select (cmpi .eq (iota .tc S1024x36 32 [1] iota_S1024x36_d1_w32) (broadcast S1024x36 (Scalar.addi (Scalar.muli a 4#32) j)))
    (broadcastTo S1024x36 (shapeCast S1024x1 s shapeCasts_S1024x1_S1024x1) broadcasts_S1024x1_S1024x36)
    (shapeCast S1024x36 Y shapeCasts_S1024x36_S1024x36)

/-! ## The printed payloads -/

theorem pay4_eq (v3 : Vec F S1024x7168 .bf16) (v4 : Vec F S512x7168 .bf16) : k0_pay4 v3 v4 = cols 0 (k0_pay3 v3 v4) := by
  funext i; idx_vars i; pointwise [k0_pay4, cols]
theorem pay14_eq (v5 : FVec F S1024x512 .f32) : k0_pay14 v5 = cols 1 v5 := by
  funext i; idx_vars i; pointwise [k0_pay14, cols]
theorem pay22_eq (v5 : FVec F S1024x512 .f32) : k0_pay22 v5 = cols 2 v5 := by
  funext i; idx_vars i; pointwise [k0_pay22, cols]
theorem pay33_eq (v5 : FVec F S1024x512 .f32) : k0_pay33 v5 = cols 3 v5 := by
  funext i; idx_vars i; pointwise [k0_pay33, cols]

theorem pay5_eq (v3 : Vec F S1024x7168 .bf16) (v4 : Vec F S512x7168 .bf16) : k0_pay5 v3 v4 = absmax (cols 0 (k0_pay3 v3 v4)) := by
  rw [← pay4_eq]; rfl
theorem pay15_eq (v5 : FVec F S1024x512 .f32) : k0_pay15 v5 = absmax (cols 1 v5) := by rw [← pay14_eq]; rfl
theorem pay23_eq (v5 : FVec F S1024x512 .f32) : k0_pay23 v5 = absmax (cols 2 v5) := by rw [← pay22_eq]; rfl
theorem pay35_eq (v5 : FVec F S1024x512 .f32) : k0_pay35 (k0_pay34 v5) = absmax (cols 3 v5) := by rw [← pay33_eq]; rfl

theorem pay6_eq (v3 : Vec F S1024x7168 .bf16) (v4 : Vec F S512x7168 .bf16) : k0_pay6 v3 v4 = field3 (k0_pay5 v3 v4) := rfl
theorem pay8_eq (v3 : Vec F S1024x7168 .bf16) (v4 : Vec F S512x7168 .bf16) :
    k0_pay8 (k0_pay5 v3 v4) (k0_pay6 v3 v4) (k0_pay7 v3 v4) 134217728#32 = field (k0_pay5 v3 v4) := rfl
theorem pay10_eq (v3 : Vec F S1024x7168 .bf16) (v4 : Vec F S512x7168 .bf16) :
    k0_pay10 (k0_pay5 v3 v4) (k0_pay6 v3 v4) (k0_pay7 v3 v4) 134217728#32 = scaleOf (field (absmax (cols 0 (k0_pay3 v3 v4)))) := by
  rw [← pay5_eq, ← pay8_eq]; rfl
theorem pay11_eq (v3 : Vec F S1024x7168 .bf16) (v4 : Vec F S512x7168 .bf16) :
    k0_pay11 (k0_pay5 v3 v4) (k0_pay6 v3 v4) (k0_pay7 v3 v4) 134217728#32 = invOf (field (absmax (cols 0 (k0_pay3 v3 v4)))) := by
  rw [← pay5_eq, ← pay8_eq]; rfl
theorem pay18_eq (v5 : FVec F S1024x512 .f32) : k0_pay18 (k0_pay15 v5) (k0_pay16 v5) k0_pay17 = field (absmax (cols 1 v5)) := by
  rw [← pay15_eq]; rfl
theorem pay29_eq (v5 : FVec F S1024x512 .f32) :
    k0_pay29 (k0_pay23 v5) (k0_pay27 (k0_pay23 v5) k0_pay24 (k0_pay25 v5) k0_pay26) (k0_pay28 (k0_pay23 v5) k0_pay24 (k0_pay25 v5) k0_pay26)
      = field (absmax (cols 2 v5)) := by
  rw [← pay23_eq]; rfl
theorem pay37_eq (v5 : FVec F S1024x512 .f32) : k0_pay37 (k0_pay35 (k0_pay34 v5)) (k0_pay36 (k0_pay34 v5)) = field (absmax (cols 3 v5)) := by
  rw [← pay35_eq]; rfl

/-- The codes of the four blocks. -/
theorem codes0 (v3 : Vec F S1024x7168 .bf16) (v4 : Vec F S512x7168 .bf16) :
    k0_pay12 (k0_pay4 v3 v4) (k0_pay11 (k0_pay5 v3 v4) (k0_pay6 v3 v4) (k0_pay7 v3 v4) 134217728#32)
      = codesOf (cols 0 (k0_pay3 v3 v4)) (invOf (field (absmax (cols 0 (k0_pay3 v3 v4))))) := by
  rw [pay11_eq, pay4_eq]; rfl
theorem codes1 (v5 : FVec F S1024x512 .f32) :
    k0_pay20 (k0_pay14 v5) (k0_pay18 (k0_pay15 v5) (k0_pay16 v5) k0_pay17) (k0_pay19 (k0_pay15 v5) (k0_pay16 v5) k0_pay17)
      = codesOf (cols 1 v5) (invOf (field (absmax (cols 1 v5)))) := by
  unfold k0_pay19; rw [pay18_eq, pay14_eq]; rfl
theorem codes2 (v5 : FVec F S1024x512 .f32) :
    k0_pay31 (k0_pay22 v5) (k0_pay23 v5) (k0_pay27 (k0_pay23 v5) k0_pay24 (k0_pay25 v5) k0_pay26) (k0_pay28 (k0_pay23 v5) k0_pay24 (k0_pay25 v5) k0_pay26)
      = codesOf (cols 2 v5) (invOf (field (absmax (cols 2 v5)))) := by
  unfold k0_pay31 k0_pay30; rw [pay29_eq, pay22_eq]; rfl
theorem codes3 (v5 : FVec F S1024x512 .f32) :
    k0_pay40 (k0_pay33 v5) (k0_pay35 (k0_pay34 v5)) (k0_pay36 (k0_pay34 v5)) = codesOf (cols 3 v5) (invOf (field (absmax (cols 3 v5)))) := by
  unfold k0_pay40 k0_pay38; rw [pay37_eq, pay33_eq]; rfl

/-- The scales of the four blocks, each put in its lane. -/
theorem scales0 (a : BitVec 32) (v3 : Vec F S1024x7168 .bf16) (v4 : Vec F S512x7168 .bf16) (Y : Vec F S1024x36 .f32) :
    k0_pay13 a (iota .tc S1024x36 32 [1] iota_S1024x36_d1_w32) (k0_pay10 (k0_pay5 v3 v4) (k0_pay6 v3 v4) (k0_pay7 v3 v4) 134217728#32) Y
      = put a 0#32 (scaleOf (field (absmax (cols 0 (k0_pay3 v3 v4))))) Y := by
  rw [pay10_eq]; rfl
theorem scales1 (a : BitVec 32) (v5 : FVec F S1024x512 .f32) (Y : Vec F S1024x36 .f32) :
    k0_pay21 a (iota .tc S1024x36 32 [1] iota_S1024x36_d1_w32) (k0_pay18 (k0_pay15 v5) (k0_pay16 v5) k0_pay17)
        (k0_pay19 (k0_pay15 v5) (k0_pay16 v5) k0_pay17) 8388608#32 Y
      = put a 1#32 (scaleOf (field (absmax (cols 1 v5)))) Y := by
  unfold k0_pay19; rw [pay18_eq]; rfl
theorem scales2 (a : BitVec 32) (v5 : FVec F S1024x512 .f32) (Y : Vec F S1024x36 .f32) :
    k0_pay32 a (iota .tc S1024x36 32 [1] iota_S1024x36_d1_w32) (k0_pay23 v5) (k0_pay27 (k0_pay23 v5) k0_pay24 (k0_pay25 v5) k0_pay26)
        (k0_pay28 (k0_pay23 v5) k0_pay24 (k0_pay25 v5) k0_pay26) Y
      = put a 2#32 (scaleOf (field (absmax (cols 2 v5)))) Y := by
  unfold k0_pay32 k0_pay30; rw [pay29_eq]; rfl
theorem scales3 (a : BitVec 32) (v5 : FVec F S1024x512 .f32) (Y : Vec F S1024x36 .f32) :
    k0_pay1 (k0_pay39 (k0_pay35 (k0_pay34 v5)) (k0_pay36 (k0_pay34 v5))) (k0_pay41 a (iota .tc S1024x36 32 [1] iota_S1024x36_d1_w32)) Y
      = put a 3#32 (scaleOf (field (absmax (cols 3 v5)))) Y := by
  unfold k0_pay39 k0_pay38; rw [pay37_eq]; rfl

/-! ## The whole blocks -/

/-- Block `j` of the codes, the scale block after the body: four lanes put. -/
def codesJ (xn : Vec F S1024x7168 .bf16) (w : Vec F S512x7168 .bf16) (j : Fin 4) : FVec F S1024x128 .fp8e4m3 :=
  codesOf (cols j (k0_pay3 xn w)) (invOf (field (absmax (cols j (k0_pay3 xn w)))))
def scalesJ (xn : Vec F S1024x7168 .bf16) (w : Vec F S512x7168 .bf16) (j : Fin 4) : FVec F S1024x1 .f32 :=
  scaleOf (field (absmax (cols j (k0_pay3 xn w))))

/-- The block of codes the body leaves. -/
def codesBlk (xn : Vec F S1024x7168 .bf16) (w : Vec F S512x7168 .bf16) : Vec F S1024x512 .fp8e4m3 :=
  fun i => codesJ xn w ⟨(i 1).val / 128, by have h1 : (i 1).val < 512 := (i 1).isLt; omega⟩ (ix2 (i 0) ⟨(i 1).val % 128, Nat.mod_lt _ (by decide)⟩)

/-- The block of scales it leaves, from what it found there. -/
def scalesBlk (a : BitVec 32) (xn : Vec F S1024x7168 .bf16) (w : Vec F S512x7168 .bf16) (Y : Vec F S1024x36 .f32) : Vec F S1024x36 .f32 :=
  put a 3#32 (scalesJ xn w 3) (put a 2#32 (scalesJ xn w 2) (put a 1#32 (scalesJ xn w 1) (put a 0#32 (scalesJ xn w 0) Y)))

/-- The normalised rows of a row tile, 16 rows a trip. -/
def rows (x : Vec F S1024x7168 .bf16) (k : Fin 64) : Vec F S16x7168 .bf16 :=
  fun i => x (ix2 ⟨16 * k.val + (i 0).val, by have := k.isLt; have h0 : (i 0).val < 16 := (i 0).isLt; omega⟩ (i 1))
def xnBlk (x : Vec F S1024x7168 .bf16) (g : Vec F S1x7168 .f32) : Vec F S1024x7168 .bf16 :=
  fun i => k0_pay2 (rows x ⟨(i 0).val / 16, by have h0 : (i 0).val < 1024 := (i 0).isLt; omega⟩) g (ix2 ⟨(i 0).val % 16, Nat.mod_lt _ (by decide)⟩ (i 1))

end Cert.KernelIdeal.Body

end
-- ==== Proof.RunB.lean ====
/-
  Hand-written, untrusted. The body's run at the points that find a normalised row tile in the scratch buffer: it leaves the block of codes
  `codesBlk` and puts four scales into the scale block it found (`scalesBlk`).
-/
module

public import proofs.«01_k».proof.Proof.Blocks

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Four stores of 128 columns that agree with one block leave that block. -/
theorem read_codes (arg5 : Memref sig .tc .vmem S1024x512 .fp8e4m3) (f : BufTy.Contents (Elt F) arg5.view.ty) (xn : Vec F S1024x7168 .bf16) (w : Vec F S512x7168 .bf16)
    (p0 p1 p2 p3 : FVec F S1024x128 .fp8e4m3) (h0 : p0 = Body.codesJ xn w 0) (h1 : p1 = Body.codesJ xn w 1) (h2 : p2 = Body.codesJ xn w 2) (h3 : p3 = Body.codesJ xn w 3) :
    arg5.view.read (Elt F) (arg5.view.writes (Elt F) f [⟨Rect.unit ![0, 384] S1024x128.size inb_S1024x512_S1024x128_0_384, p3⟩,
      ⟨Rect.unit ![0, 256] S1024x128.size inb_S1024x512_S1024x128_0_256, p2⟩, ⟨Rect.unit ![0, 128] S1024x128.size inb_S1024x512_S1024x128_0_128, p1⟩,
      ⟨Rect.unit ![0, 0] S1024x128.size inb_S1024x512_S1024x128_0_0, p0⟩]) = Body.codesBlk xn w := by
  subst h0 h1 h2 h3
  have key : ∀ (j : Fin 4) (x : S1024x128.Idx) (y : S1024x512.Idx), (y 0).val = (x 0).val → (y 1).val = 128 * j.val + (x 1).val →
      Body.codesJ xn w j x = Body.codesBlk xn w y := by
    intro j x y hy0 hy1
    have hx : (x 1).val < 128 := (x 1).isLt
    have hj := j.isLt
    unfold Body.codesBlk
    have e1 : (⟨(y 1).val / 128, by have h1 : (y 1).val < 512 := (y 1).isLt; omega⟩ : Fin 4) = j := Fin.ext (by show (y 1).val / 128 = j.val; omega)
    have e2 : (ix2 (y 0) ⟨(y 1).val % 128, Nat.mod_lt _ (by decide)⟩ : S1024x128.Idx) = x := by
      funext a; fin_cases a
      · exact Fin.ext hy0
      · exact Fin.ext (by show (y 1).val % 128 = (x 1).val; omega)
    rw [e1, e2]
  funext y
  refine View.read_writes_apply_of_pieces arg5.view f (Body.codesBlk xn w) _ ?_ y (View.cover_of_tiled _ ![1024, 128] rfl y)
  intro p hp x
  simp only [List.mem_cons, List.not_mem_nil, or_false] at hp
  rcases hp with rfl | rfl | rfl | rfl
  · exact key 3 x _ (by show 0 + 1 * (x 0).val = _; omega) (by show 384 + 1 * (x 1).val = 128 * 3 + _; omega)
  · exact key 2 x _ (by show 0 + 1 * (x 0).val = _; omega) (by show 256 + 1 * (x 1).val = 128 * 2 + _; omega)
  · exact key 1 x _ (by show 0 + 1 * (x 0).val = _; omega) (by show 128 + 1 * (x 1).val = 128 * 1 + _; omega)
  · exact key 0 x _ (by show 0 + 1 * (x 0).val = _; omega) (by show 0 + 1 * (x 1).val = 128 * 0 + _; omega)

-- (the run's proof term is large: checking it walks past the default budget)
set_option maxHeartbeats 1000000 in
/-- The body where the scratch holds a normalised row tile `xn` and the scale block holds `Y`: codes and scales of `xn` against the weight tile,
    the scratch kept. -/
theorem kernelRun0_B (c : Dev nD) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (hc0 : ¬cond0_0 i)
    (x0 : Vec F S1024x7168 .bf16) (x1 : Vec F S1x7168 .f32) (x2 : Vec F S512x7168 .bf16) (Y : Vec F S1024x36 .f32) (xn : Vec F S1024x7168 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Y ∗ owns (c : Thread nD τ) arg7 fullShare xn
            ∗ (iprop(owns (c : Thread nD τ) arg2 fullShare x0 ∗ owns (c : Thread nD τ) arg3 fullShare x1 ∗ owns (c : Thread nD τ) arg4 fullShare x2 ∗ owns (c : Thread nD τ) arg5 fullShare (Body.codesBlk xn x2) ∗ owns (c : Thread nD τ) arg6 fullShare (Body.scalesBlk (BitVec.ofNat 32 (i 1).val) xn x2 Y) ∗ owns (c : Thread nD τ) arg7 fullShare xn) -∗ K ⟨⟩))
          ⊢ wp frame (wpE (defs₀ (F := F)) Variants.none c none) E (cc0_norm_linear_quant i arg2 harg2 arg3 harg3 arg4 harg4 arg5 harg5 arg6 harg6 arg7 harg7) K := by
    intro E K
    simp only [cc0_norm_linear_quant_eq_skeleton]; unfold cc0_norm_linear_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg6.eq_unread hf4; obtain rfl := harg7.eq_unread hfs0
    sl_exec (disch := first | sl_exact hc0)
    sl_step
    have hR : arg7.view.readAt (Elt F) (Rect.unit ![0, 0] S1024x7168.size inb_S1024x7168_S1024x7168_0_0).toLoadRect (harg7.unread xn) = xn :=
      (View.readAt_full _ _ _).trans (harg7.read_unread _)
    have hW : arg4.view.readAt (Elt F) (Rect.unit ![0, 0] S512x7168.size inb_S512x7168_S512x7168_0_0).toLoadRect (harg4.unread x2) = x2 :=
      (View.readAt_full _ _ _).trans (harg4.read_unread _)
    have hY : arg6.view.readAt (Elt F) (Rect.unit ![0, 0] S1024x36.size inb_S1024x36_S1024x36_0_0).toLoadRect (harg6.unread Y) = Y :=
      (View.readAt_full _ _ _).trans (harg6.read_unread _)
    have hr : kernelRun0_B.sl.r c arg4 harg4 arg7 harg7 x2 xn = k0_pay3 xn x2 := congrArg₂ k0_pay3 hR hW
    have h193 : kernelRun0_B.sl.v193 c i arg4 harg4 arg6 harg6 arg7 harg7 x2 Y xn = Body.put (BitVec.ofNat 32 (i 1).val) 0#32 (Body.scalesJ xn x2 0) Y :=
      (View.readCov_full arg6.view _ _ _ _).trans ((Body.scales0 _ _ _ _).trans (by rw [hR, hW, hY]; rfl))
    have h289 : kernelRun0_B.sl.v289 c i arg4 harg4 arg6 harg6 arg7 harg7 x2 Y xn = Body.put (BitVec.ofNat 32 (i 1).val) 1#32 (Body.scalesJ xn x2 1) (kernelRun0_B.sl.v193 c i arg4 harg4 arg6 harg6 arg7 harg7 x2 Y xn) :=
      (View.readCov_full arg6.view _ _ _ _).trans ((Body.scales1 _ _ _).trans (by rw [hr]; rfl))
    have h385 : kernelRun0_B.sl.v385 c i arg4 harg4 arg6 harg6 arg7 harg7 x2 Y xn = Body.put (BitVec.ofNat 32 (i 1).val) 2#32 (Body.scalesJ xn x2 2) (kernelRun0_B.sl.v289 c i arg4 harg4 arg6 harg6 arg7 harg7 x2 Y xn) :=
      (View.readCov_full arg6.view _ _ _ _).trans ((Body.scales2 _ _ _).trans (by rw [hr]; rfl))
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact read_codes arg5 _ xn x2 _ _ _ _ ((Body.codes0 _ _).trans (by rw [hR, hW]; rfl)) ((Body.codes1 _).trans (by rw [hr]; rfl))
        ((Body.codes2 _).trans (by rw [hr]; rfl)) ((Body.codes3 _).trans (by rw [hr]; rfl))
    isplitl [H4]
    · iexists _; isplitr; swap; · iexact H4
      ipureintro
      refine (View.read_writes_full arg6.view _ _ _ _).trans ((Body.scales3 _ _ _).trans ?_)
      rw [hr, h385, h289, h193]
      rfl
    iexists _; isplitr; swap; · iexact HS0
    ipureintro; exact harg7.read_unread _

end Cert.KernelIdeal.Gen

end
-- ==== Proof.RunA.lean ====
/-
  Hand-written, untrusted. The body's run at the points that start a row tile: the loop leaves the normalised row tile `xnBlk` in the scratch
  buffer, and the rest is as at the other points.
-/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The loop over the row tile -/

theorem trips_eq : k0_t1_loop.trips = 64 := by decide

theorem off1_zero (k : Fin k0_t1_loop.trips) : k0_off1 k 0 = 16 * k.val := by
  have h : ∀ k : Fin 64, k0_off1 ⟨k.val, by rw [trips_eq]; exact k.isLt⟩ 0 = 16 * k.val := by decide
  exact h ⟨k.val, trips_eq ▸ k.isLt⟩

theorem off1_one (k : Fin k0_t1_loop.trips) : k0_off1 k 1 = 0 := rfl

/-- What one trip stores: its 16 rows normalised. -/
theorem tripL_eq (𝒱 : Variants) (c : Dev nD) (bd : Option 𝒱.V) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (k0_h1 : k0_cond1 i = 1#1) (x0 : Vec F S1024x7168 .bf16) (x1 : Vec F S1x7168 .f32) (k : Fin k0_t1_loop.trips) :
    tripL_k0_t1 (F := F) 𝒱 c bd i arg2 harg2 arg3 harg3 arg4 harg4 arg5 harg5 arg6 harg6 arg7 harg7 k0_h1 (harg2.unread x0) (harg3.unread x1) k
      = [⟨Rect.unit (k0_off1 k) S16x7168.size (k0_off1_inb i k k0_h1), k0_pay2 (Body.rows x0 ⟨k.val, trips_eq ▸ k.isLt⟩) x1⟩] := by
  have h1 : arg3.view.readAt (Elt F) (Rect.unit ![0, 0] S1x7168.size inb_S1x7168_S1x7168_0_0).toLoadRect (harg3.unread x1) = x1 :=
    (View.readAt_full _ _ _).trans (harg3.read_unread _)
  have h0 : arg2.view.readAt (Elt F) (Rect.unit (s := S1024x7168) (k0_off1 k) S16x7168.size (k0_off1_inb i k k0_h1)).toLoadRect (harg2.unread x0)
      = Body.rows x0 ⟨k.val, trips_eq ▸ k.isLt⟩ := by
    funext y
    show arg2.view.read (Elt F) (harg2.unread x0) _ = _
    rw [harg2.read_unread]
    unfold Body.rows
    refine congrArg x0 (funext fun a => ?_)
    fin_cases a
    · refine Fin.ext ?_
      show k0_off1 k 0 + 1 * (y 0).val = 16 * k.val + (y 0).val
      rw [off1_zero]; omega
    · refine Fin.ext ?_
      show k0_off1 k 1 + 1 * (y 1).val = (y 1).val
      rw [off1_one]; omega
  unfold tripL_k0_t1 trip_k0_t1
  exact congrArg (fun w => [(⟨Rect.unit (s := S1024x7168) (k0_off1 k) S16x7168.size (k0_off1_inb i k k0_h1), w⟩ : View.Piece (Elt F) S1024x7168 .bf16)]) (congrArg₂ k0_pay2 h0 h1)

/-- Every piece of the trips before `n` is a piece of the normalised row tile. -/
theorem pb_pieces (𝒱 : Variants) (c : Dev nD) (bd : Option 𝒱.V) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (k0_h1 : k0_cond1 i = 1#1) (x0 : Vec F S1024x7168 .bf16) (x1 : Vec F S1x7168 .f32) :
    ∀ n, n ≤ 64 → ∀ p ∈ pb_k0_t1 (F := F) 𝒱 c bd i arg2 harg2 arg3 harg3 arg4 harg4 arg5 harg5 arg6 harg6 arg7 harg7 k0_h1 (harg2.unread x0) (harg3.unread x1) n, ∀ x : p.1.shape.Idx, p.2 x = Body.xnBlk x0 x1 (p.1.emb x)
  | 0, _, p, hp => by exact absurd hp List.not_mem_nil
  | n + 1, hn, p, hp => by
    rw [show n + 1 = (⟨n, by rw [trips_eq]; omega⟩ : Fin k0_t1_loop.trips).val + 1 from rfl, pb_k0_t1_succ, tripL_eq, List.singleton_append, List.mem_cons] at hp
    rcases hp with rfl | hp
    · intro x
      have hx0 : (x 0).val < 16 := (x 0).isLt
      have e0 : ((Rect.unit (s := S1024x7168) (k0_off1 ⟨n, by rw [trips_eq]; omega⟩) S16x7168.size (k0_off1_inb i ⟨n, by rw [trips_eq]; omega⟩ k0_h1)).emb x 0).val = 16 * n + (x 0).val := by
        show k0_off1 _ 0 + 1 * (x 0).val = _
        rw [off1_zero]; show 16 * n + 1 * (x 0).val = 16 * n + (x 0).val; omega
      have e1 : (Rect.unit (s := S1024x7168) (k0_off1 ⟨n, by rw [trips_eq]; omega⟩) S16x7168.size (k0_off1_inb i ⟨n, by rw [trips_eq]; omega⟩ k0_h1)).emb x 1 = x 1 := by
        refine Fin.ext ?_
        show 0 + 1 * (x 1).val = (x 1).val
        omega
      generalize (Rect.unit (s := S1024x7168) (k0_off1 ⟨n, by rw [trips_eq]; omega⟩) S16x7168.size (k0_off1_inb i ⟨n, by rw [trips_eq]; omega⟩ k0_h1)).emb x = y at e0 e1
      show k0_pay2 (Body.rows x0 ⟨n, _⟩) x1 x = _
      unfold Body.xnBlk
      have f1 : ∀ h, (⟨(y 0).val / 16, h⟩ : Fin 64) = ⟨n, by omega⟩ := fun h => Fin.ext (by show (y 0).val / 16 = n; omega)
      have f2 : ∀ h, (ix2 ⟨(y 0).val % 16, h⟩ (y 1) : S16x7168.Idx) = x := by
        intro h; funext a; fin_cases a
        · exact Fin.ext (by show (y 0).val % 16 = (x 0).val; omega)
        · exact e1
      rw [f1, f2]
    · exact pb_pieces 𝒱 c bd i arg2 harg2 arg3 harg3 arg4 harg4 arg5 harg5 arg6 harg6 arg7 harg7 k0_h1 x0 x1 n (by omega) p hp

/-- The trips before `n` cover the first `16 n` rows. -/
theorem pb_cover (𝒱 : Variants) (c : Dev nD) (bd : Option 𝒱.V) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (k0_h1 : k0_cond1 i = 1#1) (x0 : Vec F S1024x7168 .bf16) (x1 : Vec F S1x7168 .f32) (y : S1024x7168.Idx) :
    ∀ n, n ≤ 64 → (y 0).val < 16 * n → ∃ p ∈ pb_k0_t1 (F := F) 𝒱 c bd i arg2 harg2 arg3 harg3 arg4 harg4 arg5 harg5 arg6 harg6 arg7 harg7 k0_h1 (harg2.unread x0) (harg3.unread x1) n, y ∈ p.1.set
  | 0, _, h => by omega
  | n + 1, hn, h => by
    rw [show n + 1 = (⟨n, by rw [trips_eq]; omega⟩ : Fin k0_t1_loop.trips).val + 1 from rfl, pb_k0_t1_succ, tripL_eq, List.singleton_append]
    by_cases hy : (y 0).val < 16 * n
    · obtain ⟨p, hp, hm⟩ := pb_cover 𝒱 c bd i arg2 harg2 arg3 harg3 arg4 harg4 arg5 harg5 arg6 harg6 arg7 harg7 k0_h1 x0 x1 y n (by omega) hy
      exact ⟨p, List.mem_cons_of_mem _ hp, hm⟩
    · refine ⟨_, List.mem_cons_self, ?_⟩
      rw [Rect.mem_set_unit]
      intro a
      fin_cases a
      · show k0_off1 _ 0 ≤ (y 0).val ∧ (y 0).val < k0_off1 _ 0 + 16
        rw [off1_zero]; show 16 * n ≤ _ ∧ _ < 16 * n + 16; omega
      · show k0_off1 _ 1 ≤ (y 1).val ∧ (y 1).val < k0_off1 _ 1 + 7168
        have := (y 1).isLt
        rw [off1_one]; exact ⟨by omega, by simpa using this⟩

/-- After the loop the scratch buffer holds the normalised row tile. -/
theorem read_pb (𝒱 : Variants) (c : Dev nD) (bd : Option 𝒱.V) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (k0_h1 : k0_cond1 i = 1#1) (x0 : Vec F S1024x7168 .bf16) (x1 : Vec F S1x7168 .f32) (f : BufTy.Contents (Elt F) arg7.view.ty) :
    arg7.view.read (Elt F) (arg7.view.writes (Elt F) f (pb_k0_t1 (F := F) 𝒱 c bd i arg2 harg2 arg3 harg3 arg4 harg4 arg5 harg5 arg6 harg6 arg7 harg7 k0_h1 (harg2.unread x0) (harg3.unread x1) k0_t1_loop.trips)) = Body.xnBlk x0 x1 := by
  rw [trips_eq]
  funext y
  have hy : (y 0).val < 1024 := (y 0).isLt
  exact View.read_writes_apply_of_pieces arg7.view f (Body.xnBlk x0 x1) _ (pb_pieces 𝒱 c bd i arg2 harg2 arg3 harg3 arg4 harg4 arg5 harg5 arg6 harg6 arg7 harg7 k0_h1 x0 x1 64 le_rfl) y (pb_cover 𝒱 c bd i arg2 harg2 arg3 harg3 arg4 harg4 arg5 harg5 arg6 harg6 arg7 harg7 k0_h1 x0 x1 y 64 le_rfl (by omega))

-- (the run's proof term is large: checking it walks past the default budget)
set_option maxHeartbeats 1000000 in
/-- The body at the start of a row tile, the scale block holding `Y`: the scratch left at the normalised row tile, codes and scales of it against
    the weight tile. -/
theorem kernelRun0_A (c : Dev nD) (i : grid0.Coords) (arg2 : Memref sig .tc .vmem S1024x7168 .bf16) (harg2 : arg2.IsWhole) (arg3 : Memref sig .tc .vmem S1x7168 .f32) (harg3 : arg3.IsWhole) (arg4 : Memref sig .tc .vmem S512x7168 .bf16) (harg4 : arg4.IsWhole) (arg5 : Memref sig .tc .vmem S1024x512 .fp8e4m3) (harg5 : arg5.IsWhole) (arg6 : Memref sig .tc .vmem S1024x36 .f32) (harg6 : arg6.IsWhole) (arg7 : Memref sig .tc .vmem S1024x7168 .bf16) (harg7 : arg7.IsWhole) (hc0 : cond0_0 i)
    (x0 : Vec F S1024x7168 .bf16) (x1 : Vec F S1x7168 .f32) (x2 : Vec F S512x7168 .bf16) (Y : Vec F S1024x36 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare Y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare (Body.codesBlk (Body.xnBlk x0 x1) x2) ∗ owns (c : Thread nD τ) arg6 fullShare (Body.scalesBlk (BitVec.ofNat 32 (i 1).val) (Body.xnBlk x0 x1) x2 Y) ∗ owns (c : Thread nD τ) arg7 fullShare (Body.xnBlk x0 x1)) -∗ K ⟨⟩))
          ⊢ wp frame (wpE (defs₀ (F := F)) Variants.none c none) E (cc0_norm_linear_quant i arg2 harg2 arg3 harg3 arg4 harg4 arg5 harg5 arg6 harg6 arg7 harg7) K := by
    intro E K
    simp only [cc0_norm_linear_quant_eq_skeleton]; unfold cc0_norm_linear_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg6.eq_unread hf4
    sl_exec (disch := first | sl_exact hc0)
    sl_step
    have hR : kernelRun0_A.sl.v3 c i arg2 harg2 arg3 harg3 arg4 harg4 arg5 harg5 arg6 harg6 arg7 harg7 hc0 x0 x1 fs0 = (Body.xnBlk x0 x1) :=
      (View.readAt_full _ _ _).trans (read_pb Variants.none c none i arg2 harg2 arg3 harg3 arg4 harg4 arg5 harg5 arg6 harg6 arg7 harg7 hc0 x0 x1 _)
    have hW : arg4.view.readAt (Elt F) (Rect.unit ![0, 0] S512x7168.size inb_S512x7168_S512x7168_0_0).toLoadRect (harg4.unread x2) = x2 :=
      (View.readAt_full _ _ _).trans (harg4.read_unread _)
    have hY : arg6.view.readAt (Elt F) (Rect.unit ![0, 0] S1024x36.size inb_S1024x36_S1024x36_0_0).toLoadRect (harg6.unread Y) = Y :=
      (View.readAt_full _ _ _).trans (harg6.read_unread _)
    have hr : kernelRun0_A.sl.r c i arg2 harg2 arg3 harg3 arg4 harg4 arg5 harg5 arg6 harg6 arg7 harg7 hc0 x0 x1 x2 fs0 = k0_pay3 (Body.xnBlk x0 x1) x2 := congrArg₂ k0_pay3 hR hW
    have h193 : kernelRun0_A.sl.v193 c i arg2 harg2 arg3 harg3 arg4 harg4 arg5 harg5 arg6 harg6 arg7 harg7 hc0 x0 x1 x2 Y fs0 = Body.put (BitVec.ofNat 32 (i 1).val) 0#32 (Body.scalesJ (Body.xnBlk x0 x1) x2 0) Y :=
      (View.readCov_full arg6.view _ _ _ _).trans ((Body.scales0 _ _ _ _).trans (by rw [hR, hW, hY]; rfl))
    have h289 : kernelRun0_A.sl.v289 c i arg2 harg2 arg3 harg3 arg4 harg4 arg5 harg5 arg6 harg6 arg7 harg7 hc0 x0 x1 x2 Y fs0 = Body.put (BitVec.ofNat 32 (i 1).val) 1#32 (Body.scalesJ (Body.xnBlk x0 x1) x2 1) (kernelRun0_A.sl.v193 c i arg2 harg2 arg3 harg3 arg4 harg4 arg5 harg5 arg6 harg6 arg7 harg7 hc0 x0 x1 x2 Y fs0) :=
      (View.readCov_full arg6.view _ _ _ _).trans ((Body.scales1 _ _ _).trans (by rw [hr]; rfl))
    have h385 : kernelRun0_A.sl.v385 c i arg2 harg2 arg3 harg3 arg4 harg4 arg5 harg5 arg6 harg6 arg7 harg7 hc0 x0 x1 x2 Y fs0 = Body.put (BitVec.ofNat 32 (i 1).val) 2#32 (Body.scalesJ (Body.xnBlk x0 x1) x2 2) (kernelRun0_A.sl.v289 c i arg2 harg2 arg3 harg3 arg4 harg4 arg5 harg5 arg6 harg6 arg7 harg7 hc0 x0 x1 x2 Y fs0) :=
      (View.readCov_full arg6.view _ _ _ _).trans ((Body.scales2 _ _ _).trans (by rw [hr]; rfl))
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      exact read_codes arg5 _ (Body.xnBlk x0 x1) x2 _ _ _ _ ((Body.codes0 _ _).trans (by rw [hR, hW]; rfl)) ((Body.codes1 _).trans (by rw [hr]; rfl))
        ((Body.codes2 _).trans (by rw [hr]; rfl)) ((Body.codes3 _).trans (by rw [hr]; rfl))
    isplitl [H4]
    · iexists _; isplitr; swap; · iexact H4
      ipureintro
      refine (View.read_writes_full arg6.view _ _ _ _).trans ((Body.scales3 _ _ _).trans ?_)
      rw [hr, h385, h289, h193]
      rfl
    iexists _; isplitr; swap; · iexact HS0
    ipureintro; exact read_pb Variants.none c none i arg2 harg2 arg3 harg3 arg4 harg4 arg5 harg5 arg6 harg6 arg7 harg7 hc0 x0 x1 _

end Cert.KernelIdeal.Gen

end
-- ==== Proof.Lanes.lean ====
/-
  Hand-written, untrusted. The scale block after the body, lane by lane: lane `4 n + j` holds the scale of block `j` of column tile `n`, every
  other lane what it held.
-/
module

public import proofs.«01_k».proof.Proof.Blocks

@[expose] public section

-- membership in a rectangle of production extents (`View.cover_of_tiled`): the elaborator's structural look
-- recurses once per coordinate of the long axes
set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Lane `q` is the one addressed by tile `n`, block `j`. -/
theorem lane_iff (n j q : ℕ) (hn : n < 9) (hj : j < 4) (hq : q < 36) :
    BitVec.ofNat 32 q = BitVec.ofNat 32 n * 4#32 + BitVec.ofNat 32 j ↔ q = 4 * n + j := by
  rw [← BitVec.toNat_inj]
  simp only [BitVec.toNat_add, BitVec.toNat_mul, BitVec.toNat_ofNat]
  omega

theorem put_apply (n j : ℕ) (hn : n < 9) (hj : j < 4) (s : FVec F S1024x1 .f32) (Y : Vec F S1024x36 .f32) (r : Fin 1024) (q : Fin 36) :
    put (BitVec.ofNat 32 n) (BitVec.ofNat 32 j) s Y (ix2 r q) = if q.val = 4 * n + j then s (ix2 r 0) else Y (ix2 r q) := by
  have h := lane_iff n j q.val hn hj q.isLt
  pointwise [put]
  rw [WordCmp.cmpi_eq_eq]
  unfold Scalar.select
  show (if BitVec.ofBool (decide (BitVec.ofNat 32 q.val = BitVec.ofNat 32 n * 4#32 + BitVec.ofNat 32 j)) = 1 then _ else _) = _
  by_cases hq : q.val = 4 * n + j
  · rw [if_pos hq, decide_eq_true (h.mpr hq)]; rfl
  · rw [if_neg hq, decide_eq_false (fun e => hq (h.mp e))]; rfl

/-- The scale block after the body. -/
theorem scalesBlk_apply (n : ℕ) (hn : n < 9) (xn : Vec F S1024x7168 .bf16) (w : Vec F S512x7168 .bf16) (Y : Vec F S1024x36 .f32) (r : Fin 1024) (q : Fin 36) :
    scalesBlk (BitVec.ofNat 32 n) xn w Y (ix2 r q)
      = if q.val / 4 = n then scalesJ xn w ⟨q.val % 4, Nat.mod_lt _ (by decide)⟩ (ix2 r 0) else Y (ix2 r q) := by
  have hq := q.isLt
  unfold scalesBlk
  rw [show (3#32 : BitVec 32) = BitVec.ofNat 32 3 from rfl, show (2#32 : BitVec 32) = BitVec.ofNat 32 2 from rfl,
    show (1#32 : BitVec 32) = BitVec.ofNat 32 1 from rfl, show (0#32 : BitVec 32) = BitVec.ofNat 32 0 from rfl]
  rw [put_apply n 3 hn (by decide), put_apply n 2 hn (by decide), put_apply n 1 hn (by decide), put_apply n 0 hn (by decide)]
  by_cases h3 : q.val = 4 * n + 3
  · rw [if_pos h3, if_pos (by omega)]
    exact congrArg (fun j => scalesJ xn w j (ix2 r 0)) (Fin.ext (by show 3 = q.val % 4; omega))
  rw [if_neg h3]
  by_cases h2 : q.val = 4 * n + 2
  · rw [if_pos h2, if_pos (by omega)]
    exact congrArg (fun j => scalesJ xn w j (ix2 r 0)) (Fin.ext (by show 2 = q.val % 4; omega))
  rw [if_neg h2]
  by_cases h1 : q.val = 4 * n + 1
  · rw [if_pos h1, if_pos (by omega)]
    exact congrArg (fun j => scalesJ xn w j (ix2 r 0)) (Fin.ext (by show 1 = q.val % 4; omega))
  rw [if_neg h1]
  by_cases h0 : q.val = 4 * n + 0
  · rw [if_pos h0, if_pos (by omega)]
    exact congrArg (fun j => scalesJ xn w j (ix2 r 0)) (Fin.ext (by show 0 = q.val % 4; omega))
  rw [if_neg h0, if_neg (by omega)]

end Cert.KernelIdeal.Body

end
-- ==== Proof.Data.lean ====
/-
  Hand-written, untrusted. The proof data of the kernel's pipeline: the scratch buffer holds the normalised row tile of the point before; each
  point leaves its block of codes, and in the scale block the scales of the column tiles done so far; the launch from them, the frame, and what the
  result arrays hold.
-/
module

public import proofs.«01_k».proof.Proof.RunA
public import proofs.«01_k».proof.Proof.Lanes
public import Idealize.ShloMosaic.Lib.Pipeline.DatRel
public import Idealize.ShloMosaic.Lib.Pipeline.ArrRel
public import Idealize.ShloMosaic.Lib.Pipeline.ValueKit
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

theorem coord0 (t : Fin cfg0.N) : (grid0.coords t 0).val = t.val / 9 := by
  have ht : t.val < 144 := Nat.lt_of_lt_of_eq t.isLt N_0
  have e0 : (grid0.coords t 0).val = t.val / 9 % 16 := Pipeline.Grid.coords_val t 0 (by decide) rfl
  omega

theorem coord1 (t : Fin cfg0.N) : (grid0.coords t 1).val = t.val % 9 := by
  have e1 : (grid0.coords t 1).val = t.val / 1 % 9 := Pipeline.Grid.coords_val t 1 (by decide) rfl
  omega

theorem idx0 : ∀ t : Fin cfg0.N, win0_0.index t = ![t.val / 9, 0] ∧ win0_1.index t = ![0, 0] ∧ win0_2.index t = ![t.val % 9, 0]
    ∧ win0_3.index t = ![t.val / 9, t.val % 9] ∧ win0_4.index t = ![t.val / 9, 0] := by
  intro t
  have ht : t.val < 144 := Nat.lt_of_lt_of_eq t.isLt N_0
  have h0 : (BitVec.ofNat 32 (grid0.coords t 0).val).toNat = t.val / 9 := by
    rw [coord0, BitVec.toNat_ofNat]; omega
  have h1 : (BitVec.ofNat 32 (grid0.coords t 1).val).toNat = t.val % 9 := by
    rw [coord1, BitVec.toNat_ofNat]; omega
  rw [← h0, ← h1]
  exact ⟨rfl, rfl, rfl, rfl, rfl⟩

/-- The row tile of point `t`, read off the array. -/
theorem iblk0_apply (c : Dev nD) (t : Fin cfg0.N) (r : Fin 1024) (k : Fin 7168) :
    (iblk m c 0 t : Vec F S1024x7168 .bf16) (ix2 r k) = V m c main_v0 (ix2 ⟨1024 * (t.val / 9) + r.val, by have ht : t.val < 144 := Nat.lt_of_lt_of_eq t.isLt N_0; omega⟩ k) := by
  blk_ext [iblk, idx0 t]
theorem iblk1_apply (c : Dev nD) (t : Fin cfg0.N) (k : Fin 7168) :
    (iblk m c 1 t : Vec F S1x7168 .f32) (ix2 0 k) = V m c main_v1 (ix2 0 k) := by
  blk_ext [iblk, idx0 t]
theorem iblk2_apply (c : Dev nD) (t : Fin cfg0.N) (r : Fin 512) (k : Fin 7168) :
    (iblk m c 2 t : Vec F S512x7168 .bf16) (ix2 r k) = V m c main_arg2 (ix2 ⟨512 * (t.val % 9) + r.val, by omega⟩ k) := by
  blk_ext [iblk, idx0 t]

/-- The normalised row tile of point `t`. -/
def XN (c : Dev nD) (t : Fin cfg0.N) : Vec F S1024x7168 .bf16 := Body.xnBlk (iblk m c 0 t) (iblk m c 1 t)

theorem XN_congr (c : Dev nD) (t u : Fin cfg0.N) (h : u.val / 9 = t.val / 9) : XN m c u = XN m c t := by
  have e0 : (iblk m c 0 u : Vec F S1024x7168 .bf16) = iblk m c 0 t := by
    funext i; obtain ⟨r, k, rfl⟩ : ∃ r k, i = ix2 r k := ⟨i 0, i 1, eq_ix2 i⟩
    rw [iblk0_apply, iblk0_apply]; simp only [h]
  have e1 : (iblk m c 1 u : Vec F S1x7168 .f32) = iblk m c 1 t := by
    funext i; obtain ⟨r, k, rfl⟩ : ∃ r k, i = ix2 r k := ⟨i 0, i 1, eq_ix2 i⟩
    obtain rfl : r = 0 := Subsingleton.elim _ _
    rw [iblk1_apply, iblk1_apply]
  exact congrArg₂ Body.xnBlk e0 e1

/-! ## The pipeline's proof data -/

/-- The output windows: what is left there is held to a relation. -/
def marks0 : Fin 5 → Bool := fun w => w.val == 3 || w.val == 4

/-- What the codes' buffer holds after point `t`. -/
def codesAt (c : Dev nD) (t : Fin cfg0.N) : Vec F S1024x512 .fp8e4m3 := Body.codesBlk (XN m c t) (iblk m c 2 t)
/-- The scale of row `r`, block `j`, that point `t` computes. -/
def scaleAt (c : Dev nD) (t : Fin cfg0.N) (j : Fin 4) (r : Fin 1024) : Elt F .f32 := Body.scalesJ (XN m c t) (iblk m c 2 t) j (ix2 r 0)

/-- The scale block after point `t`: the lanes of the points of this row tile so far. -/
def ScalesOK (c : Dev nD) (t : Fin cfg0.N) (X : Vec F S1024x36 .f32) : Prop :=
  ∀ u : Fin cfg0.N, u.val / 9 = t.val / 9 → u.val ≤ t.val → ∀ (r : Fin 1024) (q : Fin 36), q.val / 4 = u.val % 9 →
    X (ix2 r q) = scaleAt m c u ⟨q.val % 4, Nat.mod_lt _ (by decide)⟩ r

/-- The relation of the output windows. -/
def Rl0 (c : Dev nD) (w : Fin cfg0.W) (t : Fin cfg0.N) (X : (cfg0.win w).block.Idx → Elt F (cfg0.win w).elt) : Prop :=
  match w, X with
  | ⟨3, _⟩, X => X = codesAt m c t
  | ⟨4, _⟩, X => ScalesOK m c t X
  | _, _ => True

/-- What the scratch buffer holds before a point: after the first, the normalised row tile of the point before. -/
def PhiS (c : Dev nD) (k : Fin (cfg0.N + 1)) : sProp 𝕄 :=
  iprop((∃ d, ⌜∀ u : Fin cfg0.N, u.val + 1 = k.val → d = XN m c u⌝ ∗ owns (c : Thread nD τ) scM0_0 fullShare d) ∗ ∃ r, prngReg c r)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ := PhiS m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The data with the output windows held to their relation. -/
abbrev rdat (c : Dev nD) : Pipeline.RDat τ (Elt F) Unit ℕ (UR sig nD τ) ℕ cfg0 c := (dats m 0 c).toRRel marks0 (Rl0 m c)

/-- Inside a row tile the scale block is found as the point before left it. -/
theorem finds4 (c : Dev nD) (t : Fin cfg0.N) (ht : t.val % 9 ≠ 0) (Y : Vec F S1024x36 .f32) (h : (rdat m c).Finds 4 t Y) :
    ScalesOK m c ⟨t.val - 1, Nat.lt_of_le_of_lt (Nat.sub_le _ _) t.isLt⟩ Y := by
  rcases (Pipeline.RDat.finds_of_pos (rdat m c) (w := 4) rfl (by omega) Y).mp h with hf | hl
  · have := (flush0_4 _).mp hf
    have h' : (t.val - 1) % 9 = 8 := this
    omega
  · exact Pipeline.Dat.toRRel_leaves (dats m 0 c) (w := 4) rfl hl

/-- At the start of a row tile. -/
theorem scalesOK_first (c : Dev nD) (t : Fin cfg0.N) (ht : t.val % 9 = 0) (Y : Vec F S1024x36 .f32) :
    ScalesOK m c t (Body.scalesBlk (BitVec.ofNat 32 (grid0.coords t 1).val) (XN m c t) (iblk m c 2 t) Y) := by
  intro u h1 h2 r q hq
  obtain rfl : u = t := Fin.ext (by omega)
  rw [coord1, Body.scalesBlk_apply _ (by omega), if_pos hq]; rfl

/-- Inside a row tile: the lanes of the points before are kept. -/
theorem scalesOK_next (c : Dev nD) (t : Fin cfg0.N) (ht : t.val % 9 ≠ 0) (Y : Vec F S1024x36 .f32)
    (h : ScalesOK m c ⟨t.val - 1, Nat.lt_of_le_of_lt (Nat.sub_le _ _) t.isLt⟩ Y) :
    ScalesOK m c t (Body.scalesBlk (BitVec.ofNat 32 (grid0.coords t 1).val) (XN m c t) (iblk m c 2 t) Y) := by
  intro u h1 h2 r q hq
  rw [coord1, Body.scalesBlk_apply _ (by omega)]
  by_cases hu : u = t
  · subst hu; rw [if_pos hq]; rfl
  · have hne : u.val ≠ t.val := fun e => hu (Fin.ext e)
    rw [if_neg (by omega)]
    exact h u (by show u.val / 9 = (t.val - 1) / 9; omega) (by show u.val ≤ t.val - 1; omega) r q hq

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, ⌜(rdat m c).Finds 3 t d⌝ ∗ owns (c : Thread nD τ) (ms0_3 t) fullShare d)
    ∗ (∃ d, ⌜(rdat m c).Finds 4 t d⌝ ∗ owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, ⌜Rl0 m c 3 t d⌝ ∗ owns (c : Thread nD τ) (ms0_3 t) fullShare d)
    ∗ (∃ d, ⌜Rl0 m c 4 t d⌝ ∗ owns (c : Thread nD τ) (ms0_4 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.castSucc = PhiS m c t.castSucc from by dsimp only [dats], show (dats m 0 c).Φ t.succ = PhiS m c t.succ from by dsimp only [dats]]
  unfold PhiS
  have hN : t.val < 144 := lt_of_lt_of_eq t.isLt (show cfg0.N = 144 from N_0)
  by_cases h0 : t.val % 9 = 0
  · iintro ⟨⟨⟨%ds, -, HS0⟩, Hg⟩, Ho, ⟨%d0, H0⟩, ⟨%d1, H1⟩, ⟨%d2, H2⟩, ⟨%d3, -, H3⟩, ⟨%d4, -, H4⟩⟩
    iapply ((kernelRun0_A c (grid0.coords t) _ _ _ _ _ _ _ _ _ _ _ _ ((hcond0_0 t).mpr h0) (iblk m c 0 t) (iblk m c 1 t) (iblk m c 2 t) d4) Set.univ _)
    isplitl [H0]; · iexact H0
    isplitl [H1]; · iexact H1
    isplitl [H2]; · iexact H2
    isplitl [H3]; · iexists _; iexact H3
    isplitl [H4]; · iexact H4
    isplitl [HS0]; · iexists _; iexact HS0
    iintro ⟨H0, H1, H2, H3, H4, HS0⟩
    isplitl [HS0 Hg]
    · isplitl [HS0]
      · iexists _; isplitr; swap; · iexact HS0
        ipureintro
        intro u hu
        obtain rfl : u = t := Fin.ext (by have h' : u.val + 1 = t.val + 1 := hu; omega)
        rfl
      iexact Hg
    isplitl [Ho]; · iexact Ho
    isplitl [H0]; · iexact H0
    isplitl [H1]; · iexact H1
    isplitl [H2]; · iexact H2
    isplitl [H3]
    · iexists _; isplitr; swap; · iexact H3
      ipureintro; exact rfl
    iexists _; isplitr; swap; · iexact H4
    ipureintro; exact scalesOK_first m c t h0 d4
  · iintro ⟨⟨⟨%ds, %hds, HS0⟩, Hg⟩, Ho, ⟨%d0, H0⟩, ⟨%d1, H1⟩, ⟨%d2, H2⟩, ⟨%d3, -, H3⟩, ⟨%d4, %hd4, H4⟩⟩
    obtain rfl : ds = XN m c t := (hds ⟨t.val - 1, by omega⟩ (by show t.val - 1 + 1 = t.val; omega)).trans
      (XN_congr m c t _ (by show (t.val - 1) / 9 = t.val / 9; omega))
    iapply ((kernelRun0_B c (grid0.coords t) _ _ _ _ _ _ _ _ _ _ _ _ (fun h => h0 ((hcond0_0 t).mp h)) (iblk m c 0 t) (iblk m c 1 t) (iblk m c 2 t) d4 (XN m c t)) Set.univ _)
    isplitl [H0]; · iexact H0
    isplitl [H1]; · iexact H1
    isplitl [H2]; · iexact H2
    isplitl [H3]; · iexists _; iexact H3
    isplitl [H4]; · iexact H4
    isplitl [HS0]; · iexact HS0
    iintro ⟨H0, H1, H2, H3, H4, HS0⟩
    isplitl [HS0 Hg]
    · isplitl [HS0]
      · iexists _; isplitr; swap; · iexact HS0
        ipureintro
        intro u hu
        obtain rfl : u = t := Fin.ext (by have h' : u.val + 1 = t.val + 1 := hu; omega)
        rfl
      iexact Hg
    isplitl [Ho]; · iexact Ho
    isplitl [H0]; · iexact H0
    isplitl [H1]; · iexact H1
    isplitl [H2]; · iexact H2
    isplitl [H3]
    · iexists _; isplitr; swap; · iexact H3
      ipureintro; exact rfl
    iexists _; isplitr; swap; · iexact H4
    ipureintro; exact scalesOK_next m c t h0 d4 (finds4 m c t h0 d4 hd4)

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ marks0 (Rl0 m c) := fun t => by
  rw [bigSep_W0, bigSep_W0, defs₀_row]
  exact triple_restated (sound_body m c t) rfl .rfl fun _ => .rfl

/-! ## The run and the frame -/

theorem hin0 (c : Dev nD) : Pipeline.ΦA spec0 c ⊢ PhiS m c 0 := by
  rw [PhiA0_eq]; unfold PhiS
  iintro ⟨⟨%d, H⟩, Hg⟩
  isplitl [H]
  · iexists d; isplitr; swap; · iexact H
    ipureintro; intro u hu; exact absurd hu (Nat.succ_ne_zero _)
  iexact Hg

theorem hout0 (c : Dev nD) : PhiS m c (Fin.last cfg0.N) ⊢ Pipeline.ΦA spec0 c := by
  rw [PhiA0_eq]; unfold PhiS
  iintro ⟨⟨%d, -, H⟩, Hg⟩
  isplitl [H]
  · iexists d; iexact H
  iexact Hg

set_option backward.isDefEq.respectTransparency.types false in
/-- The launch: every final state has the arrays as the relational data say, and every semaphore counter at zero. -/
theorem run_main_quiescent : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m 0 c).share_full fun _ => rfl)
    (howed := fun _ _ => rfl) (V := V m) (hmain := hmain m Variants.none) (hA := A_eq m) (hin := hin0 m) (hout := hout0 m)

theorem run_main : θ_run defs (onTc (τ := τ) (main (F := F))) (s₀ m ρ) (Pipeline.RDat.FramePost (cfgs 0) (fun c => rdat m c) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c))⟩) (run_main m ρ)

/-- The frame: the argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Arrays.lean ====
/-
  Hand-written, untrusted. What the result arrays hold after the run.
-/
module

public import proofs.«01_k».proof.Proof.Data
public import Idealize.ShloMosaic.Lib.Pipeline.DatRel
public import Idealize.ShloMosaic.Lib.Pipeline.ArrRel
public import Idealize.ShloMosaic.Lib.Pipeline.ValueKit
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result arrays -/

/-- The grid point that computes the codes of row `r`, column `q`. -/
def point (r : Fin 16384) (n : Fin 9) : Fin cfg0.N :=
  ⟨9 * (r.val / 1024) + n.val, Nat.lt_of_lt_of_eq (by omega : _ < 144) N_0.symm⟩

/-- The codes: row tile `r / 1024`, column tile `q / 512`. -/
def codesArr (c : Dev nD) : Vec F S16384x4608 .fp8e4m3 := fun i =>
  codesAt m c (point (i 0) ⟨(i 1).val / 512, by have h : (i 1).val < 4608 := (i 1).isLt; omega⟩)
    (ix2 ⟨(i 0).val % 1024, Nat.mod_lt _ (by decide)⟩ ⟨(i 1).val % 512, Nat.mod_lt _ (by decide)⟩)

/-- The scales: four lanes for each column tile. -/
def scalesArr (c : Dev nD) : Vec F S16384x36 .f32 := fun i =>
  scaleAt m c (point (i 0) ⟨(i 1).val / 4, by have h : (i 1).val < 36 := (i 1).isLt; omega⟩) ⟨(i 1).val % 4, Nat.mod_lt _ (by decide)⟩
    ⟨(i 0).val % 1024, Nat.mod_lt _ (by decide)⟩

theorem codesArr_at (c : Dev nD) (t : Fin cfg0.N) (y : S1024x512.Idx) (i : S16384x4608.Idx)
    (h0 : (i 0).val = 1024 * (t.val / 9) + (y 0).val) (h1 : (i 1).val = 512 * (t.val % 9) + (y 1).val) :
    codesArr m c i = codesAt m c t y := by
  have hN : t.val < 144 := lt_of_lt_of_eq t.isLt N_0
  have hy0 : (y 0).val < 1024 := (y 0).isLt
  have hy1 : (y 1).val < 512 := (y 1).isLt
  unfold codesArr
  congr 1
  · apply Fin.ext
    show 9 * ((i 0).val / 1024) + (i 1).val / 512 = t.val
    omega
  · refine Eq.trans ?_ (eq_ix2 y).symm
    congr 1
    · apply Fin.ext; show (i 0).val % 1024 = (y 0).val; omega
    · apply Fin.ext; show (i 1).val % 512 = (y 1).val; omega

set_option maxHeartbeats 1000000 in
/-- Every final state holds these arrays. -/
theorem results : θ_run defs (onTc (τ := τ) (main (F := F))) ⟨m, fun _ => 0, ρ⟩ (fun r => ∀ c : Dev nD,
      r.2.mem ((c.tc : Thread nD τ).loc main_v2_0) = codesArr m c ∧ r.2.mem ((c.tc : Thread nD τ).loc main_v2_1) = scalesArr m c) := by
  refine (θ_run defs _ _).mono (fun r h c => ?_) (run_main m ρ)
  obtain ⟨after, hL, hA⟩ := h.exists_exact c
  constructor
  · refine (hA 3).trans ?_
    refine ((rdat m c).withAfter after).arrAt_eq_of_covers 3 _ (by decide +kernel) fun t hf y => ?_
    have h3 : after 3 t = codesAt m c t := Pipeline.Dat.toRRel_leaves (dats m 0 c) (w := 3) rfl (hL 3 t hf)
    have hN : t.val < 144 := lt_of_lt_of_eq t.isLt N_0
    simp only [Pipeline.RDat.withAfter_after]
    rw [h3]
    blk_simp [idx0 t]
    refine (codesArr_at m c t y _ ?_ ?_).symm
    · blk_simp [idx0 t]; omega
    · blk_simp [idx0 t]; omega
  · refine (hA 4).trans ?_
    refine ((rdat m c).withAfter after).arrAt_eq_of_covers 4 _ (by decide +kernel) fun t hf y => ?_
    have h4 : ScalesOK m c t (after 4 t) := Pipeline.Dat.toRRel_leaves (dats m 0 c) (w := 4) rfl (hL 4 t hf)
    have hN : t.val < 144 := lt_of_lt_of_eq t.isLt N_0
    have h8 := (flush0_4 t).mp hf
    simp only [Pipeline.RDat.withAfter_after]
    blk_simp [idx0 t]
    have hy0 : (y 0).val < 1024 := (y 0).isLt
    have hy1 : (y 1).val < 36 := (y 1).isLt
    have e0 : (((win0_4.blk t).view.emb y) 0 : ℕ) = 1024 * (t.val / 9) + (y 0).val := by blk_simp [idx0 t]; omega
    have e1 : (((win0_4.blk t).view.emb y) 1 : ℕ) = (y 1).val := by blk_simp [idx0 t]
    have hp : (point ((win0_4.blk t).view.emb y 0) ⟨((win0_4.blk t).view.emb y 1).val / 4, by omega⟩).val = 9 * (t.val / 9) + (y 1).val / 4 := by
      show 9 * (((win0_4.blk t).view.emb y 0 : ℕ) / 1024) + ((win0_4.blk t).view.emb y 1 : ℕ) / 4 = _
      omega
    refine (congrArg (after 4 t) (eq_ix2 y)).trans ?_
    refine (h4 (point ((win0_4.blk t).view.emb y 0) ⟨((win0_4.blk t).view.emb y 1).val / 4, by omega⟩) (by omega) (by omega) (y 0) (y 1) (by omega)).trans ?_
    unfold scalesArr
    congr 1
    · apply Fin.ext; show (y 1).val % 4 = ((win0_4.blk t).view.emb y 1).val % 4; rw [e1]
    · apply Fin.ext; show (y 0).val = ((win0_4.blk t).view.emb y 0).val % 1024; omega

end Cert.KernelIdeal.Gen
end
-- ==== Proof.Spec.lean ====
/-
  Hand-written, untrusted. The arithmetic of the claim over the extended reals, apart from either program: powers of two as bit
  patterns, the search for the exponent, the least power of two above, and the bound on the product.
-/
module

public import Idealize.ShloMosaic.PureOps.Ideal.Laws
public import Idealize.ShloMosaic.Lib.Pointwise

@[expose] public section

noncomputable section

namespace Cert.Spec

open Idealize.ShloMosaic
open scoped BigOperators

/-! ## Powers of two -/

/-- The number whose exponent field is `k` and whose other bits are zero. -/
def T (k : ℕ) : EReal := Ideal.ofBits .f32 (BitVec.ofNat 32 (k * 8388608))

theorem T_pos (k : ℕ) (h1 : 1 ≤ k) (h2 : k ≤ 254) : T k = (((2 : ℝ) ^ ((k : ℤ) - 127) : ℝ) : EReal) := by
  have hn : (BitVec.ofNat 32 (k * 8388608)).toNat = k * 8388608 := by rw [BitVec.toNat_ofNat]; omega
  have e1 : (BitVec.extractLsb' 31 1 (BitVec.ofNat 32 (k * 8388608)) == 1#1) = false := by
    rw [beq_eq_false_iff_ne]
    intro h
    have := congrArg BitVec.toNat h
    rw [BitVec.extractLsb'_toNat, hn, Nat.shiftRight_eq_div_pow] at this
    simp at this; omega
  have e2 : (BitVec.extractLsb' 23 8 (BitVec.ofNat 32 (k * 8388608))).toNat = k := by
    rw [BitVec.extractLsb'_toNat, hn, Nat.shiftRight_eq_div_pow]; omega
  have e3 : (BitVec.extractLsb' 0 23 (BitVec.ofNat 32 (k * 8388608))).toNat = 0 := by
    rw [BitVec.extractLsb'_toNat, hn, Nat.shiftRight_eq_div_pow]; omega
  unfold T
  show Ideal.ieee 8 23 _ = _
  unfold Ideal.ieee
  simp only [e2, e3]
  rw [if_neg (by omega), if_neg (by omega)]
  rw [show (8 + 23) = 31 from rfl, e1]
  congr 1
  have h2 : (2 : ℝ) ≠ 0 := by norm_num
  rw [show ((k : ℤ) - (2 ^ (8 - 1) - 1) - ((23 : ℕ) : ℤ)) = ((k : ℤ) - 127) - 23 by norm_num, zpow_sub₀ h2]
  rw [show (2 : ℝ) ^ (23 : ℤ) = 8388608 by norm_num]
  push_cast
  norm_num
  ring

theorem T_zero : T 0 = 0 := by
  unfold T Ideal.ofBits Ideal.ieee
  simp

theorem T_top : T 255 = ⊤ := by
  unfold T Ideal.ofBits Ideal.ieee
  simp

theorem T_lt (j k : ℕ) (hjk : j < k) (hk : k ≤ 255) : T j < T k := by
  rcases Nat.eq_zero_or_pos j with rfl | hj
  · rw [T_zero]
    rcases Nat.lt_or_ge k 255 with h | h
    · rw [T_pos k (by omega) (by omega)]; exact EReal.coe_pos.mpr (zpow_pos (by norm_num) _)
    · rw [show k = 255 by omega, T_top]; exact EReal.zero_lt_top
  · rw [T_pos j (by omega) (by omega)]
    rcases Nat.lt_or_ge k 255 with h | h
    · rw [T_pos k (by omega) (by omega)]
      exact EReal.coe_lt_coe_iff.mpr (zpow_lt_zpow_right₀ (by norm_num : (1 : ℝ) < 2) (by omega))
    · rw [show k = 255 by omega, T_top]; exact EReal.coe_lt_top _

theorem T_le (j k : ℕ) (hjk : j ≤ k) (hk : k ≤ 255) : T j ≤ T k := by
  rcases Nat.lt_or_ge j k with h | h
  · exact (T_lt j k h hk).le
  · rw [show j = k by omega]

theorem T_nonneg (k : ℕ) (hk : k ≤ 255) : 0 ≤ T k := T_zero ▸ T_le 0 k (Nat.zero_le _) hk

/-! ## The search -/

/-- One step on one number. -/
def stp (v : EReal) (b f : BitVec 32) : BitVec 32 := if Ideal.ofBits .f32 (f + b) ≤ v then f + b else f

/-- All eight steps. -/
def fld (v : EReal) : BitVec 32 :=
  stp v 8388608#32 (stp v 16777216#32 (stp v 33554432#32 (stp v 67108864#32 (stp v 134217728#32
    (stp v 268435456#32 (stp v 536870912#32 (stp v 1073741824#32 0#32)))))))

/-- What the search keeps: the field is `k`, the number is not below it, and is below the field `s` further up unless that is past the end. -/
def Inv (v : EReal) (f : BitVec 32) (s : ℕ) : Prop :=
  ∃ k : ℕ, f = BitVec.ofNat 32 (k * 8388608) ∧ T k ≤ v ∧ k + s ≤ 256 ∧ (k + s = 256 ∨ v < T (k + s))

theorem stp_inv (v : EReal) (f : BitVec 32) (s s' : ℕ) (b : BitVec 32) (hb : b = BitVec.ofNat 32 (s * 8388608)) (hs : s' = s + s) (h : Inv v f s') :
    Inv v (stp v b f) s := by
  obtain ⟨k, rfl, h1, h2, h3⟩ := h
  subst hb hs
  have hadd : BitVec.ofNat 32 (k * 8388608) + BitVec.ofNat 32 (s * 8388608) = BitVec.ofNat 32 ((k + s) * 8388608) := by
    rw [Nat.add_mul, BitVec.ofNat_add]
  unfold stp
  rw [hadd]
  show Inv v (if T (k + s) ≤ v then _ else _) s
  by_cases hc : T (k + s) ≤ v
  · rw [if_pos hc]
    exact ⟨k + s, rfl, hc, by omega, by rw [Nat.add_assoc]; exact h3⟩
  · rw [if_neg hc]
    exact ⟨k, rfl, h1, by omega, .inr (lt_of_not_ge hc)⟩

theorem fld_spec (v : EReal) (h0 : 0 ≤ v) : Inv v (fld v) 1 := by
  unfold fld
  refine stp_inv v _ 1 2 _ rfl rfl ?_
  refine stp_inv v _ 2 4 _ rfl rfl ?_
  refine stp_inv v _ 4 8 _ rfl rfl ?_
  refine stp_inv v _ 8 16 _ rfl rfl ?_
  refine stp_inv v _ 16 32 _ rfl rfl ?_
  refine stp_inv v _ 32 64 _ rfl rfl ?_
  refine stp_inv v _ 64 128 _ rfl rfl ?_
  refine stp_inv v _ 128 256 _ rfl rfl ?_
  exact ⟨0, rfl, by rw [T_zero]; exact h0, by omega, .inl rfl⟩

/-- Below `2 ^ 126` the search ends at the field `k ≤ 252` of the number. -/
theorem fld_eq (v : EReal) (h0 : 0 ≤ v) (h1 : v < T 253) : ∃ k : ℕ, k ≤ 252 ∧ fld v = BitVec.ofNat 32 (k * 8388608) ∧ T k ≤ v ∧ v < T (k + 1) := by
  obtain ⟨k, hk, h2, h3, h4⟩ := fld_spec v h0
  have hk' : k ≤ 252 := by
    by_contra hc
    exact absurd (lt_of_le_of_lt h2 h1) (not_lt.mpr (T_le 253 k (by omega) (by omega)))
  refine ⟨k, hk', hk, h2, ?_⟩
  rcases h4 with h4 | h4
  · omega
  · exact h4

/-! ## The scale -/

/-- Neither the field of zero nor that of infinity. -/
def reg (f : BitVec 32) : BitVec 1 := IntOp.andi (IntOp.cmpi .ne f 0#32) (IntOp.cmpi .ne f 2139095040#32)
/-- The kernel's scale and its reciprocal. -/
def scl (v : EReal) : EReal := Ideal.ofBits .f32 (Scalar.select (reg (fld v)) (IntOp.addi (fld v) 8388608#32) 1065353216#32)
def inv (v : EReal) : EReal := Ideal.ofBits .f32 (Scalar.select (reg (fld v)) (IntOp.subi 2122317824#32 (fld v)) 1065353216#32)

/-- The reference's scale. -/
def scale (v : EReal) : EReal :=
  if v < T 1 then T 127 else Finset.fold min ⊤ (fun i : Fin 253 => if v < T (i.val + 2) then T (i.val + 2) else ⊤) Finset.univ

theorem reg_zero : reg 0#32 = 0#1 := by decide
theorem reg_pos (k : ℕ) (h1 : 1 ≤ k) (h2 : k ≤ 252) : reg (BitVec.ofNat 32 (k * 8388608)) = 1#1 := by
  have hn : (BitVec.ofNat 32 (k * 8388608)).toNat = k * 8388608 := by rw [BitVec.toNat_ofNat]; omega
  have n0 : BitVec.ofNat 32 (k * 8388608) ≠ 0#32 := fun h => by
    have := congrArg BitVec.toNat h; rw [hn] at this; simp at this; omega
  have n1 : BitVec.ofNat 32 (k * 8388608) ≠ 2139095040#32 := fun h => by
    have := congrArg BitVec.toNat h; rw [hn] at this; simp at this; omega
  have c0 : IntOp.cmpi .ne (BitVec.ofNat 32 (k * 8388608)) 0#32 = 1#1 := by
    show BitVec.ofBool (BitVec.ofNat 32 (k * 8388608) != 0#32) = 1#1
    rw [bne_iff_ne.mpr n0]; rfl
  have c1 : IntOp.cmpi .ne (BitVec.ofNat 32 (k * 8388608)) 2139095040#32 = 1#1 := by
    show BitVec.ofBool (BitVec.ofNat 32 (k * 8388608) != 2139095040#32) = 1#1
    rw [bne_iff_ne.mpr n1]; rfl
  unfold reg; rw [c0, c1]; rfl

/-- The least power of two above. -/
theorem scale_pos (v : EReal) (k : ℕ) (h1 : 1 ≤ k) (h2 : k ≤ 252) (hk : T k ≤ v) (hk' : v < T (k + 1)) : scale v = T (k + 1) := by
  unfold scale
  rw [if_neg (not_lt.mpr ((T_le 1 k h1 (by omega)).trans hk))]
  apply le_antisymm
  · rw [Finset.fold_min_le]
    refine .inr ⟨⟨k - 1, by omega⟩, Finset.mem_univ _, ?_⟩
    show (if v < T (k - 1 + 2) then T (k - 1 + 2) else ⊤) ≤ T (k + 1)
    rw [show k - 1 + 2 = k + 1 by omega, if_pos hk']
  · rw [Finset.le_fold_min]
    refine ⟨le_top, fun i _ => ?_⟩
    by_cases hi : v < T (i.val + 2)
    · rw [if_pos hi]
      refine T_le _ _ ?_ (by omega)
      by_contra hc
      exact absurd (lt_of_lt_of_le hi (T_le (i.val + 2) k (by omega) (by omega))) (not_lt.mpr hk)
    · rw [if_neg hi]; exact le_top

theorem T_127 : T 127 = 1 := by rw [T_pos 127 (by omega) (by omega)]; norm_num

theorem scl_eq (v : EReal) (h0 : 0 ≤ v) (h1 : v < T 253) : scl v = scale v ∧ inv v = Ideal.div 1 (scale v) := by
  obtain ⟨k, hk, hf, hk1, hk2⟩ := fld_eq v h0 h1
  rcases Nat.eq_zero_or_pos k with rfl | hp
  · have hs : scale v = T 127 := by unfold scale; rw [if_pos hk2]
    have hf' : fld v = 0#32 := hf
    rw [hs]
    unfold scl inv
    rw [hf', reg_zero]
    refine ⟨rfl, ?_⟩
    show T 127 = _
    rw [T_127]; unfold Ideal.div; rw [if_neg one_ne_zero]; simp
  · have hs := scale_pos v k hp hk hk1 hk2
    rw [hs]
    unfold scl inv
    rw [hf, reg_pos k hp hk]
    constructor
    · show Ideal.ofBits .f32 (BitVec.ofNat 32 (k * 8388608) + BitVec.ofNat 32 8388608) = _
      rw [← BitVec.ofNat_add, show k * 8388608 + 8388608 = (k + 1) * 8388608 by ring]; rfl
    · show Ideal.ofBits .f32 (2122317824#32 - BitVec.ofNat 32 (k * 8388608)) = _
      have hsub : 2122317824#32 - BitVec.ofNat 32 (k * 8388608) = BitVec.ofNat 32 ((253 - k) * 8388608) := by
        apply BitVec.eq_of_toNat_eq
        rw [BitVec.toNat_sub, BitVec.toNat_ofNat, BitVec.toNat_ofNat, BitVec.toNat_ofNat]; omega
      rw [hsub]
      show T (253 - k) = _
      rw [T_pos (253 - k) (by omega) (by omega), T_pos (k + 1) (by omega) (by omega)]
      have hz : (((2 : ℝ) ^ (((k + 1 : ℕ) : ℤ) - 127) : ℝ) : EReal) ≠ 0 := by
        exact_mod_cast (zpow_pos (by norm_num : (0 : ℝ) < 2) _).ne'
      unfold Ideal.div
      rw [if_neg hz, one_mul, ← EReal.coe_inv, ← zpow_neg]
      congr 2
      omega

end Cert.Spec

end
-- ==== Proof.Bound.lean ====
/-
  Hand-written, untrusted. The arithmetic of the claim over the extended reals, apart from either program: a row normalised, its product with a
  row of weights, a block of 128 products, and the bound that keeps a block's scale below the greatest power of two.
-/
module

public import proofs.«01_k».proof.Proof.Spec

@[expose] public section

noncomputable section

namespace Cert.Spec

open Idealize.ShloMosaic
open scoped BigOperators

/-! ## The row functions -/

/-- A row's reciprocal root mean square. -/
def rms (x : Fin 7168 → EReal) : EReal :=
  Ideal.rsqrt (Ideal.div (∑ k, x k * x k) (Ideal.ofBits .f32 1172307968#32) + Ideal.ofBits .f32 897988541#32)
/-- A row normalised. -/
def nrm (x g : Fin 7168 → EReal) (k : Fin 7168) : EReal := x k * rms x * g k
/-- Its product with a row of weights. -/
def prod (x g w : Fin 7168 → EReal) : EReal := ∑ k, nrm x g k * w k
/-- The greatest magnitude of a block over 448. -/
def val (h : Fin 128 → EReal) : EReal :=
  Finset.fold max (Ideal.ofBits .f32 4286578688#32) (fun q => max (h q) (-h q)) Finset.univ * Ideal.ofBits .f32 991054117#32
/-- Clipped to ±448. -/
def clip (y : EReal) : EReal := min (Ideal.ofBits .f32 1138753536#32) (max (Ideal.ofBits .f32 3286237184#32) y)

/-- The products of one block of 128 columns. -/
def blk (X : Fin 16384 → Fin 7168 → EReal) (g : Fin 7168 → EReal) (W : Fin 4608 → Fin 7168 → EReal) (r : Fin 16384) (b : Fin 36)
    (q : Fin 128) : EReal :=
  prod (X r) g (W ⟨b.val * 128 + q.val, by omega⟩)

/-! ## The constants -/

theorem c7168 : Ideal.ofBits .f32 1172307968#32 = ((7168 : ℝ) : EReal) := by
  unfold Ideal.ofBits Ideal.ieee
  simp
  rw [← EReal.coe_mul]
  norm_num
theorem ceps : ∃ e : ℝ, 0 < e ∧ Ideal.ofBits .f32 897988541#32 = (e : EReal) := by
  refine ⟨8796093 * (2 : ℝ) ^ (-43 : ℤ), by positivity, ?_⟩
  unfold Ideal.ofBits Ideal.ieee
  simp
theorem c448 : ∃ e : ℝ, 0 ≤ e ∧ e ≤ 1 ∧ Ideal.ofBits .f32 991054117#32 = (e : EReal) := by
  refine ⟨9586981 * (2 : ℝ) ^ (-32 : ℤ), by positivity, by norm_num, ?_⟩
  unfold Ideal.ofBits Ideal.ieee
  simp
theorem cbot : Ideal.ofBits .f32 4286578688#32 = ⊥ := by
  unfold Ideal.ofBits Ideal.ieee
  simp
theorem cL : Ideal.ofBits .f32 1468006400#32 = (((2 : ℝ) ^ 48 : ℝ) : EReal) := by
  have := T_pos 175 (by omega) (by omega)
  refine this.trans ?_
  norm_num

/-! ## The bound -/

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem mul_self_nonneg' (a : EReal) : 0 ≤ a * a := by
  induction a with
  | bot => simp
  | top => simp
  | coe r => rw [← EReal.coe_mul]; exact EReal.coe_nonneg.mpr (mul_self_nonneg r)

/-- A row with an infinity in it has reciprocal root mean square zero. -/
theorem rms_inf (x : Fin 7168 → EReal) (j : Fin 7168) (hj : x j * x j = ⊤) : rms x = 0 := by
  have hS : ∑ k, x k * x k = ⊤ := by
    refine top_le_iff.mp ?_
    rw [← hj]
    exact Finset.single_le_sum (f := fun k => x k * x k) (fun k _ => mul_self_nonneg' (x k)) (Finset.mem_univ j)
  obtain ⟨e, he, hc⟩ := ceps
  unfold rms
  rw [hS, c7168, hc]
  unfold Ideal.div
  rw [if_neg (by exact_mod_cast (by norm_num : (7168 : ℝ) ≠ 0)), ← EReal.coe_inv, EReal.top_mul_of_pos (EReal.coe_pos.mpr (by norm_num)), EReal.top_add_coe]
  rfl

/-- A real row times its reciprocal root mean square is at most 85 (the root of 7168, rounded up). -/
theorem rms_real (y : Fin 7168 → ℝ) : ∃ r : ℝ, rms (fun k => (y k : EReal)) = (r : EReal) ∧ ∀ k, |y k * r| ≤ 85 := by
  obtain ⟨e, he, hc⟩ := ceps
  have hs : 0 ≤ ∑ k, y k * y k := Finset.sum_nonneg fun k _ => mul_self_nonneg _
  have hp : 0 < (∑ k, y k * y k) * (7168 : ℝ)⁻¹ + e := add_pos_of_nonneg_of_pos (mul_nonneg hs (by norm_num)) he
  refine ⟨(Real.sqrt ((∑ k, y k * y k) * (7168 : ℝ)⁻¹ + e))⁻¹, ?_, fun k => ?_⟩
  · unfold rms
    rw [show (∑ k, (y k : EReal) * (y k : EReal)) = ((∑ k, y k * y k : ℝ) : EReal) by rw [coe_sum]; simp only [EReal.coe_mul], c7168, hc]
    unfold Ideal.div
    rw [if_neg (by exact_mod_cast (by norm_num : (7168 : ℝ) ≠ 0)), ← EReal.coe_inv, ← EReal.coe_mul, ← EReal.coe_add]
    show (if _ < (0 : ℝ) then (⊥ : EReal) else if _ = (0 : ℝ) then ⊤ else _) = _
    rw [if_neg (not_lt.mpr hp.le), if_neg hp.ne']
  · have hk : y k * y k ≤ ∑ k, y k * y k := Finset.single_le_sum (f := fun k => y k * y k) (fun k _ => mul_self_nonneg _) (Finset.mem_univ k)
    have hq := Real.sqrt_pos.mpr hp
    rw [abs_mul, abs_inv, abs_of_pos hq, ← div_eq_mul_inv, div_le_iff₀ hq]
    refine abs_le_of_sq_le_sq (?_ : y k ^ 2 ≤ (85 * Real.sqrt ((∑ k, y k * y k) * (7168 : ℝ)⁻¹ + e)) ^ 2) (mul_nonneg (by norm_num) hq.le)
    rw [mul_pow, Real.sq_sqrt hp.le]
    generalize (∑ k, y k * y k) = S at hk hs hp
    have h0 : y k ^ 2 = y k * y k := sq (y k)
    rw [h0]
    linarith

theorem real_of_abs_le (a : EReal) (L : ℝ) (h : max a (-a) ≤ (L : EReal)) : ∃ r : ℝ, a = (r : EReal) ∧ |r| ≤ L := by
  induction a with
  | bot => simp at h
  | top => simp at h
  | coe r =>
    refine ⟨r, rfl, abs_le.mpr ?_⟩
    have h1 : ((r : ℝ) : EReal) ≤ (L : EReal) := (le_max_left _ _).trans h
    have h2 : -((r : ℝ) : EReal) ≤ (L : EReal) := (le_max_right _ _).trans h
    rw [← EReal.coe_neg] at h2
    have h1' := EReal.coe_le_coe_iff.mp h1
    have h2' := EReal.coe_le_coe_iff.mp h2
    constructor <;> linarith

/-- The product is bounded, whatever the row. -/
theorem prod_bound (x g w : Fin 7168 → EReal) (hg : ∀ k, max (g k) (-g k) ≤ Ideal.ofBits .f32 1468006400#32)
    (hw : ∀ k, max (w k) (-w k) ≤ Ideal.ofBits .f32 1468006400#32) :
    max (prod x g w) (-prod x g w) ≤ (((2 : ℝ) ^ 120 : ℝ) : EReal) := by
  by_cases hx : ∃ j, x j * x j = ⊤
  · obtain ⟨j, hj⟩ := hx
    have h0 : prod x g w = 0 := by
      unfold prod nrm
      rw [rms_inf x j hj]
      simp
    rw [h0]
    simp
  · have hx' : ∀ k, ∃ y : ℝ, x k = (y : EReal) := by
      intro k
      have hk : x k * x k ≠ ⊤ := fun h => hx ⟨k, h⟩
      induction hxk : x k with
      | bot => rw [hxk] at hk; simp at hk
      | top => rw [hxk] at hk; simp at hk
      | coe r => exact ⟨r, rfl⟩
    choose y hy using hx'
    obtain rfl : x = fun k => (y k : EReal) := funext hy
    simp only [cL] at hg hw
    choose gr hgr hgl using fun k => real_of_abs_le (g k) _ (hg k)
    choose wr hwr hwl using fun k => real_of_abs_le (w k) _ (hw k)
    obtain ⟨r, hr, hb⟩ := rms_real y
    have hp : prod (fun k => (y k : EReal)) g w = ((∑ k, y k * r * gr k * wr k : ℝ) : EReal) := by
      unfold prod nrm
      rw [hr, coe_sum]
      refine Finset.sum_congr rfl fun k _ => ?_
      rw [hgr, hwr, EReal.coe_mul, EReal.coe_mul, EReal.coe_mul]
    have hl : |∑ k, y k * r * gr k * wr k| ≤ (2 : ℝ) ^ 120 := by
      refine (Finset.abs_sum_le_sum_abs _ _).trans ?_
      refine (Finset.sum_le_sum (g := fun _ => (85 * 2 ^ 48 * 2 ^ 48 : ℝ)) fun k _ => ?_).trans ?_
      · rw [abs_mul, abs_mul]
        have := hb k; have := hgl k; have := hwl k
        gcongr
      · rw [Finset.sum_const, Finset.card_univ, Fintype.card_fin, nsmul_eq_mul]
        norm_num
    rw [hp, ← EReal.coe_neg]
    exact max_le (EReal.coe_le_coe_iff.mpr ((le_abs_self _).trans hl)) (EReal.coe_le_coe_iff.mpr ((neg_le_abs _).trans hl))

/-- So a block's value is in the range where the search and the table agree. -/
theorem val_range (h : Fin 128 → EReal) (hh : ∀ q, max (h q) (-h q) ≤ (((2 : ℝ) ^ 120 : ℝ) : EReal)) : 0 ≤ val h ∧ val h < T 253 := by
  obtain ⟨e, he, he1, hc⟩ := c448
  have hle : Finset.fold max (Ideal.ofBits .f32 4286578688#32) (fun q => max (h q) (-h q)) Finset.univ ≤ (((2 : ℝ) ^ 120 : ℝ) : EReal) := by
    rw [Finset.fold_max_le, cbot]
    exact ⟨bot_le, fun q _ => hh q⟩
  have hge : 0 ≤ Finset.fold max (Ideal.ofBits .f32 4286578688#32) (fun q => max (h q) (-h q)) Finset.univ := by
    rw [Finset.le_fold_max]
    refine .inr ⟨0, Finset.mem_univ _, ?_⟩
    rcases le_total 0 (h 0) with h0 | h0
    · exact le_max_of_le_left h0
    · exact le_max_of_le_right (by rw [EReal.le_neg]; simpa using h0)
  unfold val
  generalize Finset.fold max (Ideal.ofBits .f32 4286578688#32) (fun q => max (h q) (-h q)) Finset.univ = a at hle hge
  rw [hc]
  induction a using EReal.rec with
  | bot => simp at hge
  | top => exact absurd hle (not_le.mpr (EReal.coe_lt_top _))
  | coe r =>
    have h1 := EReal.coe_le_coe_iff.mp hle
    have h2 := EReal.coe_nonneg.mp hge
    rw [← EReal.coe_mul, T_pos 253 (by omega) (by omega)]
    refine ⟨EReal.coe_nonneg.mpr (mul_nonneg h2 he), EReal.coe_lt_coe_iff.mpr ?_⟩
    have h3 : r * e ≤ r := mul_le_of_le_one_right h2 he1
    have h4 : (2 : ℝ) ^ 120 < (2 : ℝ) ^ (((253 : ℕ) : ℤ) - 127) := by norm_num
    linarith

theorem blk_range (X : Fin 16384 → Fin 7168 → EReal) (g : Fin 7168 → EReal) (W : Fin 4608 → Fin 7168 → EReal)
    (hg : ∀ k, max (g k) (-g k) ≤ Ideal.ofBits .f32 1468006400#32) (hw : ∀ n k, max (W n k) (-W n k) ≤ Ideal.ofBits .f32 1468006400#32)
    (r : Fin 16384) (b : Fin 36) : 0 ≤ val (blk X g W r b) ∧ val (blk X g W r b) < T 253 :=
  val_range _ fun q => prod_bound _ _ _ hg (hw _)

end Cert.Spec

end
-- ==== Proof.KVal.lean ====
/-
  Hand-written, untrusted. The kernel's result arrays over the extended reals, index by index, as functions of the arguments.
-/
module

public import proofs.«01_k».proof.Proof.Arrays
public import proofs.«01_k».proof.Proof.Bound
public import Idealize.ShloMosaic.Lib.Pipeline.DatRel
public import Idealize.ShloMosaic.Lib.Pipeline.ArrRel
public import Idealize.ShloMosaic.Lib.Pipeline.ValueKit
public import Idealize.ShloMosaic.Lib.Claim
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## One block -/

theorem step_apply (v : FVec Ideal S1024x1 .f32) (b : BitVec 32) (f : IVec S1024x1 32) (r : Fin 1024) :
    Body.step v b f (ix2 r 0) = Spec.stp (v (ix2 r 0)) b (f (ix2 r 0)) := by
  pointwise [Body.step]
  rfl

theorem field_apply (v : FVec Ideal S1024x1 .f32) (r : Fin 1024) : Body.field v (ix2 r 0) = Spec.fld (v (ix2 r 0)) := by
  unfold Body.field Body.field3 Spec.fld
  simp only [step_apply]
  rfl

theorem scaleOf_apply (v : FVec Ideal S1024x1 .f32) (r : Fin 1024) :
    Body.scaleOf (F := Ideal) (Body.field v) (ix2 r 0) = Spec.scl (v (ix2 r 0)) := by
  unfold Spec.scl
  rw [← field_apply]
  pointwise [Body.scaleOf, Body.regular]
  rfl

theorem invOf_apply (v : FVec Ideal S1024x1 .f32) (r : Fin 1024) :
    Body.invOf (F := Ideal) (Body.field v) (ix2 r 0) = Spec.inv (v (ix2 r 0)) := by
  unfold Spec.inv
  rw [← field_apply]
  pointwise [Body.invOf, Body.regular]
  rfl

theorem absmax_apply (h : FVec Ideal S1024x128 .f32) (r : Fin 1024) : Body.absmax h (ix2 r 0) = Spec.val fun q => h (ix2 r q) := by
  pointwise [Body.absmax]
  rfl

theorem codesOf_apply (h : FVec Ideal S1024x128 .f32) (v : FVec Ideal S1024x1 .f32) (r : Fin 1024) (q : Fin 128) :
    Body.codesOf h v (ix2 r q) = Spec.clip (h (ix2 r q) * v (ix2 r 0)) := by
  pointwise [Body.codesOf]
  rfl

theorem pay2_apply (x : Vec Ideal S16x7168 .bf16) (g : Vec Ideal S1x7168 .f32) (r : Fin 16) (k : Fin 7168) :
    k0_pay2 x g (ix2 r k) = Spec.nrm (fun k => x (ix2 r k)) (fun k => g (ix2 0 k)) k := by
  pointwise [k0_pay2]
  rfl

theorem xnBlk_apply (x : Vec Ideal S1024x7168 .bf16) (g : Vec Ideal S1x7168 .f32) (r : Fin 1024) (k : Fin 7168) :
    Body.xnBlk x g (ix2 r k) = Spec.nrm (fun k => x (ix2 r k)) (fun k => g (ix2 0 k)) k := by
  unfold Body.xnBlk
  refine (pay2_apply _ g _ k).trans ?_
  refine congrFun (congrFun (congrArg Spec.nrm (funext fun k' => ?_)) _) k
  show x (ix2 ⟨16 * (r.val / 16) + r.val % 16, _⟩ k') = x (ix2 r k')
  congr 2
  apply Fin.ext
  show 16 * (r.val / 16) + r.val % 16 = r.val
  omega

theorem cols_apply (x : Vec Ideal S1024x7168 .bf16) (g : Vec Ideal S1x7168 .f32) (w : Vec Ideal S512x7168 .bf16) (j : Fin 4) (r : Fin 1024) (q : Fin 128) :
    Body.cols j (k0_pay3 (Body.xnBlk x g) w) (ix2 r q)
      = Spec.prod (fun k => x (ix2 r k)) (fun k => g (ix2 0 k)) (fun k => w (ix2 ⟨128 * j.val + q.val, by omega⟩ k)) := by
  have e : ∀ n : Fin 512, k0_pay3 (Body.xnBlk x g) w (ix2 r n) = Spec.prod (fun k => x (ix2 r k)) (fun k => g (ix2 0 k)) (fun k => w (ix2 n k)) := by
    intro n
    pointwise [k0_pay3]
    exact Finset.sum_congr rfl fun k _ => congrArg (· * w (ix2 n k)) (xnBlk_apply x g r k)
  exact e ⟨128 * j.val + q.val, by omega⟩

/-! ## The arguments at a point -/

/-- The arguments by row. -/
def Xa (c : Dev nD) (r : Fin 16384) (k : Fin 7168) : EReal := (m ((c : Thread nD τ).loc main_arg0) : Vec Ideal S16384x1x7168 .bf16) (ix3 r 0 k)
def Ga (c : Dev nD) (k : Fin 7168) : EReal := (m ((c : Thread nD τ).loc main_arg1) : Vec Ideal S7168 .f32) (ix1 k)
def Wa (c : Dev nD) (n : Fin 4608) (k : Fin 7168) : EReal := (m ((c : Thread nD τ).loc main_arg2) : Vec Ideal S4608x7168 .bf16) (ix2 n k)

theorem V0_apply (c : Dev nD) (r : Fin 16384) (k : Fin 7168) : (V m c main_v0 : Vec Ideal S16384x7168 .bf16) (ix2 r k) = Xa m c r k := by
  entry_read
  pointwise []
  rfl

theorem V1_apply (c : Dev nD) (k : Fin 7168) : (V m c main_v1 : Vec Ideal S1x7168 .f32) (ix2 0 k) = Ga m c k := by
  entry_read
  pointwise []
  rfl

/-- One block at the point of row `R` and column tile `n`. -/
theorem block_apply (c : Dev nD) (R : Fin 16384) (n : Fin 9) (j : Fin 4) (r : Fin 1024) (hr : r.val = R.val % 1024) (b : Fin 36) (hb : b.val = 4 * n.val + j.val) (q : Fin 128) :
    Body.cols j (k0_pay3 (XN m c (point R n)) (iblk m c 2 (point R n))) (ix2 r q) = Spec.blk (Xa m c) (Ga m c) (Wa m c) R b q := by
  refine (cols_apply _ _ _ j r q).trans ?_
  unfold Spec.blk
  have hp0 : (point R n).val / 9 = R.val / 1024 := by show (9 * (R.val / 1024) + n.val) / 9 = _; omega
  have hp1 : (point R n).val % 9 = n.val := by show (9 * (R.val / 1024) + n.val) % 9 = _; omega
  congr 1
  · funext k
    refine (iblk0_apply m c _ r k).trans ?_
    refine Eq.trans ?_ (V0_apply m c R k)
    congr 2
    apply Fin.ext
    show 1024 * ((point R n).val / 9) + r.val = R.val
    omega
  · funext k
    exact (iblk1_apply m c _ k).trans (V1_apply m c k)
  · funext k
    refine (iblk2_apply m c _ _ k).trans ?_
    rw [V_main_arg2]
    unfold Wa
    congr 2
    apply Fin.ext
    show 512 * ((point R n).val % 9) + (128 * j.val + q.val) = b.val * 128 + q.val
    omega

/-! ## The results -/

theorem codesArr_apply (c : Dev nD) (R : Fin 16384) (b : Fin 36) (q : Fin 128) :
    codesArr m c (ix2 R ⟨b.val * 128 + q.val, by omega⟩)
      = Spec.clip (Spec.blk (Xa m c) (Ga m c) (Wa m c) R b q * Spec.inv (Spec.val (Spec.blk (Xa m c) (Ga m c) (Wa m c) R b))) := by
  obtain ⟨n, hn⟩ : ∃ n : Fin 9, n.val = b.val / 4 := ⟨⟨b.val / 4, by omega⟩, rfl⟩
  obtain ⟨j, hj⟩ : ∃ j : Fin 4, j.val = b.val % 4 := ⟨⟨b.val % 4, by omega⟩, rfl⟩
  obtain ⟨r, hr⟩ : ∃ r : Fin 1024, r.val = R.val % 1024 := ⟨⟨R.val % 1024, by omega⟩, rfl⟩
  have hb : b.val = 4 * n.val + j.val := by omega
  have hp0 : (point R n).val / 9 = R.val / 1024 := by show (9 * (R.val / 1024) + n.val) / 9 = _; omega
  have hp1 : (point R n).val % 9 = n.val := by show (9 * (R.val / 1024) + n.val) % 9 = _; omega
  refine (codesArr_at m c (point R n) (ix2 r ⟨128 * j.val + q.val, by omega⟩) _ ?_ ?_).trans ?_
  · show R.val = 1024 * ((point R n).val / 9) + r.val
    omega
  · show b.val * 128 + q.val = 512 * ((point R n).val % 9) + (128 * j.val + q.val)
    omega
  have hj' : (⟨(128 * j.val + q.val) / 128, by omega⟩ : Fin 4) = j := Fin.ext (by show (128 * j.val + q.val) / 128 = j.val; omega)
  have hq' : (⟨(128 * j.val + q.val) % 128, Nat.mod_lt _ (by decide)⟩ : Fin 128) = q := Fin.ext (by show (128 * j.val + q.val) % 128 = q.val; omega)
  show Body.codesJ (XN m c (point R n)) (iblk m c 2 (point R n)) ⟨(128 * j.val + q.val) / 128, _⟩ (ix2 r ⟨(128 * j.val + q.val) % 128, _⟩) = _
  rw [hj', hq']
  unfold Body.codesJ
  rw [codesOf_apply, invOf_apply, absmax_apply]
  simp only [block_apply m c R n j r hr b hb]

theorem scalesArr_apply (c : Dev nD) (R : Fin 16384) (b : Fin 36) :
    scalesArr m c (ix2 R b) = Spec.scl (Spec.val (Spec.blk (Xa m c) (Ga m c) (Wa m c) R b)) := by
  show Body.scalesJ (XN m c (point R ⟨b.val / 4, _⟩)) (iblk m c 2 (point R ⟨b.val / 4, _⟩)) ⟨b.val % 4, _⟩ (ix2 ⟨R.val % 1024, _⟩ 0) = _
  unfold Body.scalesJ
  rw [scaleOf_apply, absmax_apply]
  simp only [block_apply m c R ⟨b.val / 4, by omega⟩ ⟨b.val % 4, by omega⟩ ⟨R.val % 1024, by omega⟩ rfl b (by show b.val = 4 * (b.val / 4) + b.val % 4; omega)]

end Cert.KernelIdeal.Gen
end
-- ==== Proof.Ref.lean ====
/-
  Hand-written, untrusted. The reference's results: its host line in stages, and the cast of the last call.
-/
module

public import proofs.«01_k».proof.Proof.Gen.ReferenceIdeal.Value
public import Idealize.ShloMosaic.Lib.Pipeline.ValueKit
public import Idealize.ShloMosaic.Lib.Claim
public import Idealize.ShloMosaic.Lib.Pointwise

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The host line, in stages -/

/-- The normalised activations. -/
def refXn (x : Vec F S16384x1x7168 .bf16) (g : Vec F S7168 .f32) : FVec F S16384x1x7168 .bf16 :=
  truncf .bf16 (mulf (mulf (extf .f32 x bitsLt_bf16_f32)
      (broadcastInDim S16384x1x7168 ![0, 1, 2] bcast_S16384x1x1_S16384x1x7168_0_1_2 (Host.rsqrt (addf (Host.divf
        (broadcastInDim S16384x1x1 ![0, 1] bcast_S16384x1_S16384x1x1_0_1
          (Host.reduceAdd (mulf (extf .f32 x bitsLt_bf16_f32) (extf .f32 x bitsLt_bf16_f32)) (constant S_ .f32 0x00000000#32) reducesTo_S16384x1x7168_S16384x1_d2 h_S_))
        (broadcastInDim S16384x1x1 ![] bcast_S_S16384x1x1 (constant S_ .f32 0x45E00000#32)))
        (broadcastInDim S16384x1x1 ![] bcast_S_S16384x1x1 (constant S_ .f32 0x358637BD#32))))))
    (broadcastInDim S16384x1x7168 ![0, 1, 2] bcast_S1x1x7168_S16384x1x7168_0_1_2 (broadcastInDim S1x1x7168 ![2] bcast_S7168_S1x1x7168_2 g))) bitsLt_bf16_f32

/-- The product, in blocks of 128 columns. -/
def refH (xn : FVec F S16384x1x7168 .bf16) (w : Vec F S4608x7168 .bf16) : FVec F S16384x36x128 .f32 :=
  shapeCast S16384x36x128 (Host.dotGeneral dot_S16384x1x7168_S4608x7168_S16384x1x4608_2_1_01_0_n_n none xn w) shapeCasts_S16384x1x4608_S16384x36x128

/-- The greatest magnitude of a block, over 448. -/
def refV (h : FVec F S16384x36x128 .f32) : FVec F S16384x36x1 .f32 :=
  mulf (broadcastInDim S16384x36x1 ![0, 1] bcast_S16384x36_S16384x36x1_0_1
      (Host.reduce FloatOps.maximumf (Host.absf h) (constant S_ .f32 0xFF800000#32) reducesTo_S16384x36x128_S16384x36_d2 h_S_))
    (broadcastInDim S16384x36x1 ![] bcast_S_S16384x36x1 (constant S_ .f32 0x3B124925#32))

/-- The table of powers of two. -/
def refTable : Vec F S253 .f32 := fun i => FloatOps.ofBits .f32 (lit0 (S253.rowMajor i))

/-- The scale: the least power of two of a table above, or one. -/
def refScaleOf (tab : Vec F S253 .f32) (v : FVec F S16384x36x1 .f32) : FVec F S16384x36x1 .f32 :=
  select (cmpf .olt v (broadcastInDim S16384x36x1 ![] bcast_S_S16384x36x1 (constant S_ .f32 0x00800000#32)))
    (broadcastInDim S16384x36x1 ![] bcast_S_S16384x36x1 (constant S_ .f32 0x3F800000#32))
    (broadcastInDim S16384x36x1 ![0, 1] bcast_S16384x36_S16384x36x1_0_1
      (Host.reduce FloatOps.minimumf
        (select (cmpf .olt (broadcastInDim S16384x36x253 ![0, 1, 2] bcast_S16384x36x1_S16384x36x253_0_1_2 v)
            (broadcastInDim S16384x36x253 ![0, 1, 2] bcast_S1x1x253_S16384x36x253_0_1_2 (broadcastInDim S1x1x253 ![2] bcast_S253_S1x1x253_2 tab)))
          (broadcastInDim S16384x36x253 ![2] bcast_S253_S16384x36x253_2 tab)
          (broadcastInDim S16384x36x253 ![] bcast_S_S16384x36x253 (constant S_ .f32 0x7F800000#32)))
        (constant S_ .f32 0x7F800000#32) reducesTo_S16384x36x253_S16384x36_d2 h_S_))

/-- With the table of powers of two. -/
def refScale (v : FVec F S16384x36x1 .f32) : FVec F S16384x36x1 .f32 := refScaleOf refTable v

/-- The scaled and clipped blocks. -/
def refY (h : FVec F S16384x36x128 .f32) (s : FVec F S16384x36x1 .f32) : FVec F S16384x36x128 .f32 :=
  minimumf (broadcastInDim S16384x36x128 ![] bcast_S_S16384x36x128 (constant S_ .f32 0x43E00000#32))
    (maximumf (broadcastInDim S16384x36x128 ![] bcast_S_S16384x36x128 (constant S_ .f32 0xC3E00000#32))
      (mulf h (broadcastInDim S16384x36x128 ![0, 1, 2] bcast_S16384x36x1_S16384x36x128_0_1_2
        (Host.divf (broadcastInDim S16384x36x1 ![] bcast_S_S16384x36x1 (constant S_ .f32 0x3F800000#32)) s))))

theorem V_main_v37 (c : Dev nD) : (V m c main_v37 : Vec F S16384x36 .f32) = shapeCast S16384x36
    (refScale (refV (refH (refXn (m ((c : Thread nD τ).loc main_arg0)) (m ((c : Thread nD τ).loc main_arg1))) (m ((c : Thread nD τ).loc main_arg2)))))
    shapeCasts_S16384x36x1_S16384x36 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  unfold refScale refScaleOf refV refH refXn refTable
  simp -implicitDefEqProofs only [StableHlo.TRef.ofBuf_toBuf]
  simp -implicitDefEqProofs only [StableHlo.TRef.ofBuf, StableHlo.TRef.toBuf, id_eq, cast_cast, cast_eq]
  rfl

theorem V_main_v38 (c : Dev nD) : (V m c main_v38 : Vec F S16384x4608 .f32) = shapeCast S16384x4608
    (refY (refH (refXn (m ((c : Thread nD τ).loc main_arg0)) (m ((c : Thread nD τ).loc main_arg1))) (m ((c : Thread nD τ).loc main_arg2)))
      (refScale (refV (refH (refXn (m ((c : Thread nD τ).loc main_arg0)) (m ((c : Thread nD τ).loc main_arg1))) (m ((c : Thread nD τ).loc main_arg2))))))
    shapeCasts_S16384x36x128_S16384x4608 := by
  show StableHlo.after _ _ _ = _
  simp only [hostOps0, hostOps0_1, hostOps0_2, hostOps0_3, hostOps0_4, hostOps0_5, hostOps0_6, List.flatten_cons, List.flatten_nil, List.append_nil, List.cons_append, List.nil_append]
  after_results_simp
  unfold refY refScale refScaleOf refV refH refXn refTable
  simp -implicitDefEqProofs only [StableHlo.TRef.ofBuf_toBuf]
  simp -implicitDefEqProofs only [StableHlo.TRef.ofBuf, StableHlo.TRef.toBuf, id_eq, cast_cast, cast_eq]
  rfl

/-! ## The results -/

theorem idx0 : ∀ t : Fin cfg0.N, win0_0.index t = ![0, 0] ∧ win0_1.index t = ![0, 0] := by decide +kernel

/-- What the last call's one block holds, read at an index. -/
theorem read_block (c0 : Dev nD) (W : (b : Ref sig .tc) → Buf (Elt F) ((c0 : Thread nD τ).loc b)) (t : Fin cfg0.N) (x : S16384x4608.Idx) :
    (((cfg0.win 0).blk t).view.read (Elt F) (W (Pipeline.arrRef spec0 0)) : Vec F S16384x4608 .f32) x = W main_v38 x := by
  blk_ext [idx0 t]

theorem canon_eq (X : Vec F S16384x4608 .f32) (y : S16384x4608.Idx) :
    out0_1 X y = FloatOps.truncf .fp8e4m3 bitsLt_fp8e4m3_f32 (X y) := by
  unfold out0_1
  refine (Value.canon1_eq _ y).trans ?_
  show FloatOps.truncf .fp8e4m3 bitsLt_fp8e4m3_f32 _ = FloatOps.truncf .fp8e4m3 bitsLt_fp8e4m3_f32 _
  refine congrArg _ ?_
  show X (r0_0.idx (Value.ix1_0 y)) = X y
  refine congrArg X (funext fun a => Fin.ext ?_)
  match a with
  | ⟨0, _⟩ => show 0 + 1 * (y 0).val = (y 0).val; omega
  | ⟨1, _⟩ => show 0 + 1 * (y 1).val = (y 1).val; omega

set_option maxHeartbeats 1000000 in
/-- Every final state holds these arrays. -/
theorem results : θ_run defs (onTc (τ := τ) (main (F := F))) ⟨m, fun _ => 0, ρ⟩ (fun r => ∀ c : Dev nD,
      r.2.mem ((c.tc : Thread nD τ).loc main_v39) = truncf .fp8e4m3 (V m c main_v38 : Vec F S16384x4608 .f32) bitsLt_fp8e4m3_f32
      ∧ r.2.mem ((c.tc : Thread nD τ).loc main_v37) = V m c main_v37) := by
  refine (θ_run defs _ _).mono (fun r h c => ⟨(Value.post1 m r h c).trans ?_, (h c).2 main_v37 (Pipeline.mem_restRefs_of main_v37 (by decide) (by decide))⟩) (run_main m ρ)
  refine (dats m 0 c).arrAt_eq_of_covers 1 _ (by decide +kernel) fun t hf y => ?_
  blk_simp [idx0 t]
  rw [after0_1, canon_eq]
  refine congrArg _ ((read_block c (V m c) t y).trans ?_)
  refine congrArg (V m c main_v38) ?_
  blk_ext [idx0 t]

end Cert.ReferenceIdeal.Gen
end
-- ==== Proof.RVal.lean ====
/-
  Hand-written, untrusted. The reference's results over the extended reals, index by index, as functions of the arguments.
-/
module

public import proofs.«01_k».proof.Proof.Ref
public import proofs.«01_k».proof.Proof.Bound
public import Idealize.ShloMosaic.Lib.Pipeline.ValueKit
public import Idealize.ShloMosaic.Lib.Claim
public import Idealize.ShloMosaic.Lib.Pointwise

@[expose] public section

-- membership in a rectangle of production extents (`View.cover_of_tiled`): the elaborator's structural look
-- recurses once per coordinate of the long axes
set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

theorem refXn_apply (x : Vec Ideal S16384x1x7168 .bf16) (g : Vec Ideal S7168 .f32) (r : Fin 16384) (k : Fin 7168) :
    refXn x g (ix3 r 0 k) = Spec.nrm (fun k => x (ix3 r 0 k)) (fun k => g (ix1 k)) k := by
  pointwise [refXn]
  rfl

/-- The arguments by row. -/
def Xa (x : Vec Ideal S16384x1x7168 .bf16) (r : Fin 16384) (k : Fin 7168) : EReal := x (ix3 r 0 k)
def Ga (g : Vec Ideal S7168 .f32) (k : Fin 7168) : EReal := g (ix1 k)
def Wa (w : Vec Ideal S4608x7168 .bf16) (n : Fin 4608) (k : Fin 7168) : EReal := w (ix2 n k)

theorem refH_apply (x : Vec Ideal S16384x1x7168 .bf16) (g : Vec Ideal S7168 .f32) (w : Vec Ideal S4608x7168 .bf16) (r : Fin 16384) (b : Fin 36) (q : Fin 128) :
    refH (refXn x g) w (ix3 r b q) = Spec.blk (Xa x) (Ga g) (Wa w) r b q := by
  pointwise [refH]
  exact Finset.sum_congr rfl fun k _ => congrArg (· * _) (refXn_apply x g r k)

theorem rmax (x : FVec Ideal S16384x36x128 .f32) (r : Fin 16384) (b : Fin 36) :
    Host.reduce FloatOps.maximumf x (constant S_ .f32 0xFF800000#32) reducesTo_S16384x36x128_S16384x36_d2 h_S_ (ix2 r b)
      = Finset.fold max (Ideal.ofBits .f32 4286578688#32) (fun q => x (ix3 r b q)) Finset.univ := by
  pointwise []

theorem rv (x : FVec Ideal S16384x36 .f32) (r : Fin 16384) (b : Fin 36) :
    mulf (broadcastInDim S16384x36x1 ![0, 1] bcast_S16384x36_S16384x36x1_0_1 x) (broadcastInDim S16384x36x1 ![] bcast_S_S16384x36x1 (constant S_ .f32 0x3B124925#32)) (ix3 r b 0)
     = x (ix2 r b) * Ideal.ofBits .f32 991054117#32 := by
  pointwise []

theorem refV_apply (h : FVec Ideal S16384x36x128 .f32) (r : Fin 16384) (b : Fin 36) : refV h (ix3 r b 0) = Spec.val fun q => h (ix3 r b q) := by
  have a : ∀ i, Host.absf h i = max (h i) (-h i) := fun i => rfl
  unfold refV Spec.val
  rw [rv, rmax]
  simp only [a]

theorem table_bits : ∀ j : Fin 253, lit0 j = BitVec.ofNat 32 ((j.val + 2) * 8388608) := by decide +kernel

theorem table_apply (i : Fin 253) : refTable (F := Ideal) (ix1 i) = Spec.T (i.val + 2) := by
  have h : S253.rowMajor (ix1 i) = i := by
    apply Fin.ext
    show (0 * 253 + i.val) = i.val
    omega
  show Ideal.ofBits .f32 (lit0 (S253.rowMajor (ix1 i))) = _
  rw [h, table_bits]
  rfl

theorem refScaleOf_apply (tab : Vec Ideal S253 .f32) (v : FVec Ideal S16384x36x1 .f32) (r : Fin 16384) (b : Fin 36) :
    refScaleOf tab v (ix3 r b 0) = if v (ix3 r b 0) < Ideal.ofBits FTy.f32 8388608#32 then 1
      else Finset.fold min (Ideal.ofBits FTy.f32 2139095040#32)
        (fun x => if v (ix3 r b 0) < tab (ix1 x) then tab (ix1 x) else Ideal.ofBits FTy.f32 2139095040#32) Finset.univ := by
  pointwise [refScaleOf]

theorem refScale_apply (v : FVec Ideal S16384x36x1 .f32) (r : Fin 16384) (b : Fin 36) :
    refScale v (ix3 r b 0) = Spec.scale (v (ix3 r b 0)) := by
  unfold refScale
  rw [refScaleOf_apply]
  simp only [table_apply]
  have h1 : Ideal.ofBits .f32 8388608#32 = Spec.T 1 := rfl
  have h2 : Ideal.ofBits .f32 2139095040#32 = ⊤ := Spec.T_top
  rw [h1, h2, ← Spec.T_127]
  rfl

theorem refY_apply (h : FVec Ideal S16384x36x128 .f32) (s : FVec Ideal S16384x36x1 .f32) (r : Fin 16384) (b : Fin 36) (q : Fin 128) :
    refY h s (ix3 r b q) = Spec.clip (h (ix3 r b q) * Ideal.div 1 (s (ix3 r b 0))) := by
  pointwise [refY]
  rfl

theorem scales_apply (x : Vec Ideal S16384x1x7168 .bf16) (g : Vec Ideal S7168 .f32) (w : Vec Ideal S4608x7168 .bf16) (r : Fin 16384) (b : Fin 36) :
    shapeCast S16384x36 (refScale (refV (refH (refXn x g) w))) shapeCasts_S16384x36x1_S16384x36 (ix2 r b)
      = Spec.scale (Spec.val (Spec.blk (Xa x) (Ga g) (Wa w) r b)) := by
  have e : ∀ s : FVec Ideal S16384x36x1 .f32, shapeCast S16384x36 s shapeCasts_S16384x36x1_S16384x36 (ix2 r b) = s (ix3 r b 0) := by
    intro s
    pointwise []
  rw [e, refScale_apply, refV_apply]
  simp only [refH_apply]

theorem codes_apply (x : Vec Ideal S16384x1x7168 .bf16) (g : Vec Ideal S7168 .f32) (w : Vec Ideal S4608x7168 .bf16) (r : Fin 16384) (b : Fin 36) (q : Fin 128) :
    shapeCast S16384x4608 (refY (refH (refXn x g) w) (refScale (refV (refH (refXn x g) w)))) shapeCasts_S16384x36x128_S16384x4608
        (ix2 r ⟨b.val * 128 + q.val, by omega⟩)
      = Spec.clip (Spec.blk (Xa x) (Ga g) (Wa w) r b q * Ideal.div 1 (Spec.scale (Spec.val (Spec.blk (Xa x) (Ga g) (Wa w) r b)))) := by
  have e : ∀ (s : FVec Ideal S16384x36x128 .f32) (n : Fin 4608), shapeCast S16384x4608 s shapeCasts_S16384x36x128_S16384x4608 (ix2 r n)
      = s (ix3 r ⟨n.val / 128, by omega⟩ ⟨n.val % 128, Nat.mod_lt _ (by decide)⟩) := by
    intro s n
    pointwise []
  have hb : (⟨(b.val * 128 + q.val) / 128, by omega⟩ : Fin 36) = b := Fin.ext (by show (b.val * 128 + q.val) / 128 = b.val; omega)
  have hq : (⟨(b.val * 128 + q.val) % 128, Nat.mod_lt _ (by decide)⟩ : Fin 128) = q := Fin.ext (by show (b.val * 128 + q.val) % 128 = q.val; omega)
  rw [e]
  show refY _ _ (ix3 r ⟨(b.val * 128 + q.val) / 128, _⟩ ⟨(b.val * 128 + q.val) % 128, _⟩) = _
  rw [hb, hq, refY_apply, refScale_apply, refV_apply]
  simp only [refH_apply]

end Cert.ReferenceIdeal.Gen
end
-- ==== Proof.Equal.lean ====
/-
  Hand-written, untrusted. The kernel's two result arrays are the reference's two results, where gain and weight are bounded.
-/
module

public import proofs.«01_k».proof.Defs
public import proofs.«01_k».proof.Proof.KVal
public import proofs.«01_k».proof.Proof.RVal
public import proofs.«01_k».proof.Proof.Gen.Pre_bounded

@[expose] public section

noncomputable section

namespace Cert.Equal

open Idealize.ShloMosaic Idealize.ShloMosaic.TcCoe Idealize.SL.Sem
open Cert.KernelIdeal (nD τ sig main_arg0 main_arg1 main_arg2)

attribute [local instance] Cert.KernelIdeal.Gen.facts Cert.ReferenceIdeal.Gen.facts Cert.Pre_bounded.Gen.facts

variable (m : (ℓ : Loc nD τ sig) → Buf (Elt Ideal) ℓ)

/-- A comparison that holds is an inequality of extended reals. -/
theorem le_of_cmp {x y : EReal} (h : Ideal.cmp .ole x y = 1#1) : x ≤ y := by
  by_contra hn
  simp [Ideal.cmp, hn] at h

variable {m}

theorem gain_le (h : Pre_KernelIdeal_bounded m) (c : Dev nD) (k : Fin 7168) :
    max (Cert.KernelIdeal.Gen.Ga m c k) (-Cert.KernelIdeal.Gen.Ga m c k) ≤ Ideal.ofBits .f32 1468006400#32 :=
  le_of_cmp (congrFun (h c).1 (ix1 k))

theorem weight_le (h : Pre_KernelIdeal_bounded m) (c : Dev nD) (n : Fin 4608) (k : Fin 7168) :
    max (Cert.KernelIdeal.Gen.Wa m c n k) (-Cert.KernelIdeal.Gen.Wa m c n k) ≤ Ideal.ofBits .f32 1468006400#32 :=
  le_of_cmp (congrFun (h c).2 (ix2 n k))

/-- The scales. -/
theorem scales (h : Pre_KernelIdeal_bounded m) (c : Dev nD)
    (x : Vec Ideal Cert.ReferenceIdeal.S16384x1x7168 .bf16) (g : Vec Ideal Cert.ReferenceIdeal.S7168 .f32) (w : Vec Ideal Cert.ReferenceIdeal.S4608x7168 .bf16)
    (hx : x = m ((c : Thread nD τ).loc main_arg0)) (hg : g = m ((c : Thread nD τ).loc main_arg1)) (hw : w = m ((c : Thread nD τ).loc main_arg2)) :
    shapeCast Cert.ReferenceIdeal.S16384x36 (Cert.ReferenceIdeal.Gen.refScale (Cert.ReferenceIdeal.Gen.refV (Cert.ReferenceIdeal.Gen.refH (Cert.ReferenceIdeal.Gen.refXn x g) w)))
        Cert.ReferenceIdeal.Gen.facts.shapeCasts_S16384x36x1_S16384x36
      = Cert.KernelIdeal.Gen.scalesArr m c := by
  funext i
  obtain ⟨R, b, rfl⟩ : ∃ (R : Fin 16384) (b : Fin 36), i = ix2 R b := ⟨i 0, i 1, eq_ix2 i⟩
  rw [Cert.KernelIdeal.Gen.scalesArr_apply, Cert.ReferenceIdeal.Gen.scales_apply]
  have e := Spec.blk_range (Cert.KernelIdeal.Gen.Xa m c) _ _ (gain_le h c) (weight_le h c) R b
  rw [(Spec.scl_eq _ e.1 e.2).1]
  subst hx hg hw
  rfl

/-- The codes. -/
theorem codes (h : Pre_KernelIdeal_bounded m) (c : Dev nD)
    (x : Vec Ideal Cert.ReferenceIdeal.S16384x1x7168 .bf16) (g : Vec Ideal Cert.ReferenceIdeal.S7168 .f32) (w : Vec Ideal Cert.ReferenceIdeal.S4608x7168 .bf16)
    (hx : x = m ((c : Thread nD τ).loc main_arg0)) (hg : g = m ((c : Thread nD τ).loc main_arg1)) (hw : w = m ((c : Thread nD τ).loc main_arg2)) :
    truncf .fp8e4m3 (shapeCast Cert.ReferenceIdeal.S16384x4608 (Cert.ReferenceIdeal.Gen.refY (Cert.ReferenceIdeal.Gen.refH (Cert.ReferenceIdeal.Gen.refXn x g) w)
        (Cert.ReferenceIdeal.Gen.refScale (Cert.ReferenceIdeal.Gen.refV (Cert.ReferenceIdeal.Gen.refH (Cert.ReferenceIdeal.Gen.refXn x g) w))))
        Cert.ReferenceIdeal.Gen.facts.shapeCasts_S16384x36x128_S16384x4608) Cert.ReferenceIdeal.Gen.facts.bitsLt_fp8e4m3_f32
      = Cert.KernelIdeal.Gen.codesArr m c := by
  funext i
  obtain ⟨R, b, q, rfl⟩ : ∃ (R : Fin 16384) (b : Fin 36) (q : Fin 128), i = ix2 R ⟨b.val * 128 + q.val, by omega⟩ := by
    have h1 : (i 1).val < 4608 := (i 1).isLt
    refine ⟨i 0, ⟨(i 1).val / 128, by omega⟩, ⟨(i 1).val % 128, Nat.mod_lt _ (by decide)⟩, (eq_ix2 i).trans ?_⟩
    congr 1
    apply Fin.ext
    show (i 1).val = (i 1).val / 128 * 128 + (i 1).val % 128
    omega
  refine Eq.trans ?_ (Cert.KernelIdeal.Gen.codesArr_apply m c R b q).symm
  refine (Cert.ReferenceIdeal.Gen.codes_apply x g w R b q).trans ?_
  have e := Spec.blk_range (Cert.KernelIdeal.Gen.Xa m c) _ _ (gain_le h c) (weight_le h c) R b
  rw [(Spec.scl_eq _ e.1 e.2).2]
  subst hx hg hw
  rfl

/-- The value claim. -/
theorem algebraic : algebraic_KernelIdeal_ReferenceIdeal_pre_bounded := by
  intro m g m' g' hpre hin
  refine ⟨fun c => Cert.KernelIdeal.Gen.codesArr m c, fun c => Cert.KernelIdeal.Gen.scalesArr m c, ?_, ?_⟩
  · exact θ_run_mono (θ_run_and (Cert.KernelIdeal.Gen.results m g) (Cert.KernelIdeal.Gen.frame m g)) fun r h c =>
      ⟨(h.1 c).1, (h.1 c).2, (h.2.1 c).1, (h.2.1 c).2.1, (h.2.1 c).2.2⟩
  · refine θ_run_mono (θ_run_and (Cert.ReferenceIdeal.Gen.results m' g') (Cert.ReferenceIdeal.Gen.frame m' g')) fun r h c =>
      ⟨(h.1 c).1.trans ?_, (h.1 c).2.trans ?_, (h.2.1 c).1, (h.2.1 c).2.1, (h.2.1 c).2.2⟩
    · rw [Cert.ReferenceIdeal.Gen.V_main_v38]
      exact codes hpre c _ _ _ (hin c).1 (hin c).2.1 (hin c).2.2
    · rw [Cert.ReferenceIdeal.Gen.V_main_v37]
      exact scales hpre c _ _ _ (hin c).1 (hin c).2.1 (hin c).2.2

end Cert.Equal

end
-- ==== Proof.Same.lean ====
/-
  Hand-written, untrusted. The kernel and its idealization have one text. So the frame proved of the idealization at every float instance is, at
  bits, the kernel's own.
-/
module

public import proofs.«01_k».proof.Defs
public import proofs.«01_k».proof.Proof.Data
public import proofs.«01_k».proof.Proof.Gen.Kernel

@[expose] public section

noncomputable section

namespace Cert.Same

open Idealize.ShloMosaic Idealize.ShloMosaic.TcCoe Idealize.SL.Sem

attribute [local instance] Cert.KernelIdeal.Gen.facts Cert.Kernel.Gen.facts

/-- The two body tables are one. -/
theorem defs₀_eq : Cert.Kernel.defs₀ (F := Bits) = Cert.KernelIdeal.defs₀ (F := Bits) := by
  refine congrArg Defs.onTc (funext fun l => funext fun a => ?_)
  match l, a with
  | 0, (t, s) => rfl

/-- And with the pipeline's. -/
theorem defs_eq : Cert.Kernel.defs (F := Bits) = Cert.KernelIdeal.defs (F := Bits) :=
  congrArg (Pipeline.defs (Cert.KernelIdeal.pcfgs (F := Bits))) defs₀_eq

/-- The frame of the kernel. -/
theorem frame : quiescent_Kernel := by
  intro m ρ _
  exact (congrArg (fun d => θ_run d (onTc (τ := Cert.KernelIdeal.τ) (Cert.KernelIdeal.main (F := Bits))) ⟨m, fun _ => 0, ρ⟩ _) defs_eq).mpr
    (Cert.KernelIdeal.Gen.frame (F := Bits) m ρ)

end Cert.Same

end
-- ==== Proof.lean ====
/- Hand-written, untrusted. The proof of every claim: each program runs and leaves its arguments unchanged, the ideal kernel is the
   kernel's own text, and the ideal kernel computes the reference's two results. The same for the call that dequantises the weight. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_bounded
public import proofs.«01_k».proof.Proof.Gen.Dequant
public import proofs.«01_k».proof.Proof.Gen.Dequant.Frame
public import proofs.«01_k».proof.Proof.Gen.DequantIdeal
public import proofs.«01_k».proof.Proof.Gen.DequantIdeal.Frame
public import proofs.«01_k».proof.Proof.Gen.DequantIdeal.Value
public import proofs.«01_k».proof.Proof.Gen.DequantReferenceIdeal
public import proofs.«01_k».proof.Proof.Gen.DequantReferenceIdeal.Run
public import proofs.«01_k».proof.Proof.DqRef
public import proofs.«01_k».proof.Proof.Equal
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Dequant.Gen.facts,
    Cert.DequantIdeal.Gen.facts, Cert.DequantReferenceIdeal.Gen.facts, Cert.Pre_bounded.Gen.facts,
    Cert.Same.frame,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    fun m ρ _ => Cert.Dequant.Gen.frame m ρ,
    fun m ρ _ => Cert.DequantIdeal.Gen.frame m ρ,
    Cert.DequantEqual.reference_frame,
    trivial,
    Cert.Equal.algebraic,
    trivial,
    Cert.DequantEqual.algebraic⟩

end Cert.Proof

end
